-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mix [hPre_finite_mix : Cert.Pre_finite_mix.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mix [hPre_finite_mix : Cert.Pre_finite_mix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_mix [hKernelIdeal : Cert.KernelIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_mix [hReferenceIdeal : Cert.ReferenceIdeal.Facts] [hPre_finite_mix : Cert.Pre_finite_mix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.Statement Cert.KernelIdeal.S384x1024 Cert.KernelIdeal.S192x1024
  ∧ IdealRules.named_const.Statement Cert.KernelIdeal.κ "inv_sqrt2" .f32 0x3F3504F3#32 (((Real.sqrt 2)⁻¹ : ℝ) : EReal)

def algebraic_KernelIdeal_ReferenceIdeal_pre_finite_mix [hKernelIdeal : Cert.KernelIdeal.Facts] [hReferenceIdeal : Cert.ReferenceIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_mix : Cert.Pre_finite_mix.Facts),
    quiescent_Kernel (hKernel := hKernel)
    ∧ quiescent_KernelIdeal (hKernelIdeal := hKernelIdeal)
    ∧ quiescent_KernelIdeal_pre_finite_mix (hKernelIdeal := hKernelIdeal) (hPre_finite_mix := hPre_finite_mix)
    ∧ quiescent_ReferenceIdeal (hReferenceIdeal := hReferenceIdeal)
    ∧ quiescent_ReferenceIdeal_pre_finite_mix (hReferenceIdeal := hReferenceIdeal) (hPre_finite_mix := hPre_finite_mix)
    ∧ preserves_Kernel_KernelIdeal
    ∧ algebraic_KernelIdeal_ReferenceIdeal_pre_finite_mix (hKernelIdeal := hKernelIdeal) (hReferenceIdeal := hReferenceIdeal) (hPre_finite_mix := hPre_finite_mix)
-- ==== Pre_finite_mix.lean ====
abbrev S32x384x32x32 : Shape := ⟨4, ![32, 384, 32, 32]⟩
abbrev S384x1x3x3 : Shape := ⟨4, ![384, 1, 3, 3]⟩
abbrev S384 : Shape := ⟨1, ![384]⟩
abbrev S384x1x5x5 : Shape := ⟨4, ![384, 1, 5, 5]⟩
abbrev S768x1152 : Shape := ⟨2, ![768, 1152]⟩
abbrev S768 : Shape := ⟨1, ![768]⟩
abbrev S768x768 : Shape := ⟨2, ![768, 768]⟩
abbrev S_ : Shape := ⟨0, ![]⟩

class Facts : Prop where
  slices_S768x1152_S768x768_0_384 : S768x1152.Slices ![0, 384] S768x768
  bcast_S_S768x768 : S_.BroadcastsInDim S768x768 (![] : Fin 0 → Fin S768x768.rank)
  reducesTo_S768x768_S_d0_1 : S768x768.ReducesTo [0, 1] S_
  h_S_ : 0 < S_.numel

variable [Facts]

def fn {F : FTy → Type} [FloatOps F] (main_arg0 : FVec F S32x384x32x32 .f32) (main_arg1 : FVec F S384x1x3x3 .f32) (main_arg2 : FVec F S384 .f32) (main_arg3 : FVec F S384x1x5x5 .f32) (main_arg4 : FVec F S384 .f32) (main_arg5 : FVec F S768x1152 .f32) (main_arg6 : FVec F S768 .f32) (main_arg7 : FVec F S768 .f32) (main_arg8 : FVec F S768 .f32) : IVec S_ 1 :=
  let main_v0 : FVec F S768x768 .f32 := (extractStridedSlice S768x768 ![0, 384] · slices_S768x1152_S768x768_0_384) main_arg5
  let main_v1 : FVec F S768x768 .f32 := Host.absf main_v0
  let main_cst : FVec F S_ .f32 := constant S_ .f32 0x7F800000#32
  let main_v2 : FVec F S768x768 .f32 := broadcastInDim S768x768 ![] bcast_S_S768x768 main_cst
  let main_v3 : IVec S768x768 1 := cmpf .olt main_v1 main_v2
  let main_c : IVec S_ 1 := constantI S_ 1 1#1
  let main_v4 : IVec S_ 1 := (fun x v => Host.reduce IntOp.andi x v reducesTo_S768x768_S_d0_1 h_S_) main_v3 main_c
  main_v4
-- ==== Kernel.lean ====
abbrev S32x384x32x32 : Shape := ⟨4, ![32, 384, 32, 32]⟩
abbrev S384x1x3x3 : Shape := ⟨4, ![384, 1, 3, 3]⟩
abbrev S384 : Shape := ⟨1, ![384]⟩
abbrev S384x1x5x5 : Shape := ⟨4, ![384, 1, 5, 5]⟩
abbrev S768x1152 : Shape := ⟨2, ![768, 1152]⟩
abbrev S768 : Shape := ⟨1, ![768]⟩
abbrev S32x384x1024 : Shape := ⟨3, ![32, 384, 1024]⟩
abbrev S384x9x1 : Shape := ⟨3, ![384, 9, 1]⟩
abbrev S384x9x128 : Shape := ⟨3, ![384, 9, 128]⟩
abbrev S384x1152 : Shape := ⟨2, ![384, 1152]⟩
abbrev S384x25x1 : Shape := ⟨3, ![384, 25, 1]⟩
abbrev S384x25x128 : Shape := ⟨3, ![384, 25, 128]⟩
abbrev S384x3200 : Shape := ⟨2, ![384, 3200]⟩
abbrev S768x384 : Shape := ⟨2, ![768, 384]⟩
abbrev S1x768 : Shape := ⟨2, ![1, 768]⟩
abbrev S32x1024x768 : Shape := ⟨3, ![32, 1024, 768]⟩
abbrev S1x384x1024 : Shape := ⟨3, ![1, 384, 1024]⟩
abbrev S1x1024x768 : Shape := ⟨3, ![1, 1024, 768]⟩
abbrev S384x1024 : Shape := ⟨2, ![384, 1024]⟩
abbrev S1x1024 : Shape := ⟨2, ![1, 1024]⟩
abbrev S192x1024 : Shape := ⟨2, ![192, 1024]⟩
abbrev S1024x768 : Shape := ⟨2, ![1024, 768]⟩
abbrev S384x128 : Shape := ⟨2, ![384, 128]⟩
abbrev S1024 : Shape := ⟨1, ![1024]⟩
abbrev S1024x1 : Shape := ⟨2, ![1024, 1]⟩

abbrev nBuf : Space → Nat
  | .hbm => 29
  | .vmem => 10
  | .smem => 0
  | _ => 0

abbrev bufTy : (tb : Table) → Fin (tcTables nBuf tb) → BufTy
  | .hbm, ⟨0, _⟩ => ⟨S32x384x32x32, .f32⟩
  | .hbm, ⟨1, _⟩ => ⟨S384x1x3x3, .f32⟩
  | .hbm, ⟨2, _⟩ => ⟨S384, .f32⟩
  | .hbm, ⟨3, _⟩ => ⟨S384x1x5x5, .f32⟩
  | .hbm, ⟨4, _⟩ => ⟨S384, .f32⟩
  | .hbm, ⟨5, _⟩ => ⟨S768x1152, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S32x384x1024, .f32⟩
  | .hbm, ⟨10, _⟩ => ⟨S384x9x1, .f32⟩
  | .hbm, ⟨11, _⟩ => ⟨S384x9x128, .f32⟩
  | .hbm, ⟨12, _⟩ => ⟨S384x1152, .f32⟩
  | .hbm, ⟨13, _⟩ => ⟨S384x1152, .bf16⟩
  | .hbm, ⟨14, _⟩ => ⟨S384x25x1, .f32⟩
  | .hbm, ⟨15, _⟩ => ⟨S384x25x128, .f32⟩
  | .hbm, ⟨16, _⟩ => ⟨S384x3200, .f32⟩
  | .hbm, ⟨17, _⟩ => ⟨S384x3200, .bf16⟩
  | .hbm, ⟨18, _⟩ => ⟨S768x1152, .bf16⟩
  | .hbm, ⟨19, _⟩ => ⟨S768x384, .f32⟩
  | .hbm, ⟨20, _⟩ => ⟨S768, .f32⟩
  | .hbm, ⟨21, _⟩ => ⟨S768, .f32⟩
  | .hbm, ⟨22, _⟩ => ⟨S768x384, .f32⟩
  | .hbm, ⟨23, _⟩ => ⟨S768, .f32⟩
  | .hbm, ⟨24, _⟩ => ⟨S768, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S32x1024x768, .f32⟩
  | .local _ .vmem, ⟨0, _⟩ => ⟨S1x384x1024, .f32⟩
  | .local _ .vmem, ⟨1, _⟩ => ⟨S1x384x1024, .f32⟩
  | .local _ .vmem, ⟨2, _⟩ => ⟨S384x1152, .bf16⟩
  | .local _ .vmem, ⟨3, _⟩ => ⟨S384x3200, .bf16⟩
  | .local _ .vmem, ⟨4, _⟩ => ⟨S768x1152, .bf16⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x1024x768, .f32⟩
  | .local _ .vmem, ⟨9, _⟩ => ⟨S1x1024x768, .f32⟩
  | _, _ => ⟨S32x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S32x384x32x32 : Shape := ⟨4, ![32, 384, 32, 32]⟩
abbrev S384x1x3x3 : Shape := ⟨4, ![384, 1, 3, 3]⟩
abbrev S384 : Shape := ⟨1, ![384]⟩
abbrev S384x1x5x5 : Shape := ⟨4, ![384, 1, 5, 5]⟩
abbrev S768x1152 : Shape := ⟨2, ![768, 1152]⟩
abbrev S768 : Shape := ⟨1, ![768]⟩
abbrev S_ : Shape := ⟨0, ![]⟩
abbrev S32x384x34x34 : Shape := ⟨4, ![32, 384, 34, 34]⟩
abbrev S384x1x1x1 : Shape := ⟨4, ![384, 1, 1, 1]⟩
abbrev S1x384x1x1 : Shape := ⟨4, ![1, 384, 1, 1]⟩
abbrev S32x384x36x36 : Shape := ⟨4, ![32, 384, 36, 36]⟩
abbrev S32x1152x32x32 : Shape := ⟨4, ![32, 1152, 32, 32]⟩
abbrev S768x32x32x32 : Shape := ⟨4, ![768, 32, 32, 32]⟩
abbrev S32x768x32x32 : Shape := ⟨4, ![32, 768, 32, 32]⟩
abbrev S1x768x1x1 : Shape := ⟨4, ![1, 768, 1, 1]⟩
abbrev S32x768x1024 : Shape := ⟨3, ![32, 768, 1024]⟩
abbrev S32x1024x768 : Shape := ⟨3, ![32, 1024, 768]⟩
abbrev S32x1024 : Shape := ⟨2, ![32, 1024]⟩
abbrev S32x1024x1 : Shape := ⟨3, ![32, 1024, 1]⟩
abbrev S1x1x768 : Shape := ⟨3, ![1, 1, 768]⟩

abbrev nBuf : Space → Nat
  | .hbm => 304
  | .vmem => 0
  | .smem => 0
  | _ => 0

abbrev hbmTy0_0 (i : Nat) : BufTy := match i % 128 with
  | 0 => ⟨S32x384x32x32, .f32⟩
  | 1 => ⟨S384x1x3x3, .f32⟩
  | 2 => ⟨S384, .f32⟩
  | 3 => ⟨S384x1x5x5, .f32⟩
  | 4 => ⟨S384, .f32⟩
  | 5 => ⟨S768x1152, .f32⟩
  | 6 => ⟨S768, .f32⟩
  | 7 => ⟨S768, .f32⟩
  | 8 => ⟨S768, .f32⟩
  | 9 => ⟨S_, .i32⟩
  | 10 => ⟨S_, .f32⟩
  | 11 => ⟨S32x384x34x34, .f32⟩
  | 12 => ⟨S32x384x32x32, .f32⟩
  | 13 => ⟨S384x1x1x1, .f32⟩
  | 14 => ⟨S384, .f32⟩
  | 15 => ⟨S1x384x1x1, .f32⟩
  | 16 => ⟨S32x384x32x32, .f32⟩
  | 17 => ⟨S32x384x32x32, .f32⟩
  | 18 => ⟨S32x384x32x32, .f32⟩
  | 19 => ⟨S384x1x1x1, .f32⟩
  | 20 => ⟨S384, .f32⟩
  | 21 => ⟨S1x384x1x1, .f32⟩
  | 22 => ⟨S32x384x32x32, .f32⟩
  | 23 => ⟨S32x384x32x32, .f32⟩
  | 24 => ⟨S32x384x32x32, .f32⟩
  | 25 => ⟨S32x384x32x32, .f32⟩
  | 26 => ⟨S384x1x1x1, .f32⟩
  | 27 => ⟨S384, .f32⟩
  | 28 => ⟨S1x384x1x1, .f32⟩
  | 29 => ⟨S32x384x32x32, .f32⟩
  | 30 => ⟨S32x384x32x32, .f32⟩
  | 31 => ⟨S32x384x32x32, .f32⟩
  | 32 => ⟨S32x384x32x32, .f32⟩
  | 33 => ⟨S384x1x1x1, .f32⟩
  | 34 => ⟨S384, .f32⟩
  | 35 => ⟨S1x384x1x1, .f32⟩
  | 36 => ⟨S32x384x32x32, .f32⟩
  | 37 => ⟨S32x384x32x32, .f32⟩
  | 38 => ⟨S32x384x32x32, .f32⟩
  | 39 => ⟨S32x384x32x32, .f32⟩
  | 40 => ⟨S384x1x1x1, .f32⟩
  | 41 => ⟨S384, .f32⟩
  | 42 => ⟨S1x384x1x1, .f32⟩
  | 43 => ⟨S32x384x32x32, .f32⟩
  | 44 => ⟨S32x384x32x32, .f32⟩
  | 45 => ⟨S32x384x32x32, .f32⟩
  | 46 => ⟨S32x384x32x32, .f32⟩
  | 47 => ⟨S384x1x1x1, .f32⟩
  | 48 => ⟨S384, .f32⟩
  | 49 => ⟨S1x384x1x1, .f32⟩
  | 50 => ⟨S32x384x32x32, .f32⟩
  | 51 => ⟨S32x384x32x32, .f32⟩
  | 52 => ⟨S32x384x32x32, .f32⟩
  | 53 => ⟨S32x384x32x32, .f32⟩
  | 54 => ⟨S384x1x1x1, .f32⟩
  | 55 => ⟨S384, .f32⟩
  | 56 => ⟨S1x384x1x1, .f32⟩
  | 57 => ⟨S32x384x32x32, .f32⟩
  | 58 => ⟨S32x384x32x32, .f32⟩
  | 59 => ⟨S32x384x32x32, .f32⟩
  | 60 => ⟨S32x384x32x32, .f32⟩
  | 61 => ⟨S384x1x1x1, .f32⟩
  | 62 => ⟨S384, .f32⟩
  | 63 => ⟨S1x384x1x1, .f32⟩
  | 64 => ⟨S32x384x32x32, .f32⟩
  | 65 => ⟨S32x384x32x32, .f32⟩
  | 66 => ⟨S32x384x32x32, .f32⟩
  | 67 => ⟨S32x384x32x32, .f32⟩
  | 68 => ⟨S384x1x1x1, .f32⟩
  | 69 => ⟨S384, .f32⟩
  | 70 => ⟨S1x384x1x1, .f32⟩
  | 71 => ⟨S32x384x32x32, .f32⟩
  | 72 => ⟨S32x384x32x32, .f32⟩
  | 73 => ⟨S32x384x32x32, .f32⟩
  | 74 => ⟨S1x384x1x1, .f32⟩
  | 75 => ⟨S32x384x32x32, .f32⟩
  | 76 => ⟨S32x384x32x32, .f32⟩
  | 77 => ⟨S_, .i32⟩
  | 78 => ⟨S_, .f32⟩
  | 79 => ⟨S32x384x36x36, .f32⟩
  | 80 => ⟨S32x384x32x32, .f32⟩
  | 81 => ⟨S384x1x1x1, .f32⟩
  | 82 => ⟨S384, .f32⟩
  | 83 => ⟨S1x384x1x1, .f32⟩
  | 84 => ⟨S32x384x32x32, .f32⟩
  | 85 => ⟨S32x384x32x32, .f32⟩
  | 86 => ⟨S32x384x32x32, .f32⟩
  | 87 => ⟨S384x1x1x1, .f32⟩
  | 88 => ⟨S384, .f32⟩
  | 89 => ⟨S1x384x1x1, .f32⟩
  | 90 => ⟨S32x384x32x32, .f32⟩
  | 91 => ⟨S32x384x32x32, .f32⟩
  | 92 => ⟨S32x384x32x32, .f32⟩
  | 93 => ⟨S32x384x32x32, .f32⟩
  | 94 => ⟨S384x1x1x1, .f32⟩
  | 95 => ⟨S384, .f32⟩
  | 96 => ⟨S1x384x1x1, .f32⟩
  | 97 => ⟨S32x384x32x32, .f32⟩
  | 98 => ⟨S32x384x32x32, .f32⟩
  | 99 => ⟨S32x384x32x32, .f32⟩
  | 100 => ⟨S32x384x32x32, .f32⟩
  | 101 => ⟨S384x1x1x1, .f32⟩
  | 102 => ⟨S384, .f32⟩
  | 103 => ⟨S1x384x1x1, .f32⟩
  | 104 => ⟨S32x384x32x32, .f32⟩
  | 105 => ⟨S32x384x32x32, .f32⟩
  | 106 => ⟨S32x384x32x32, .f32⟩
  | 107 => ⟨S32x384x32x32, .f32⟩
  | 108 => ⟨S384x1x1x1, .f32⟩
  | 109 => ⟨S384, .f32⟩
  | 110 => ⟨S1x384x1x1, .f32⟩
  | 111 => ⟨S32x384x32x32, .f32⟩
  | 112 => ⟨S32x384x32x32, .f32⟩
  | 113 => ⟨S32x384x32x32, .f32⟩
  | 114 => ⟨S32x384x32x32, .f32⟩
  | 115 => ⟨S384x1x1x1, .f32⟩
  | 116 => ⟨S384, .f32⟩
  | 117 => ⟨S1x384x1x1, .f32⟩
  | 118 => ⟨S32x384x32x32, .f32⟩
  | 119 => ⟨S32x384x32x32, .f32⟩
  | 120 => ⟨S32x384x32x32, .f32⟩
  | 121 => ⟨S32x384x32x32, .f32⟩
  | 122 => ⟨S384x1x1x1, .f32⟩
  | 123 => ⟨S384, .f32⟩
  | 124 => ⟨S1x384x1x1, .f32⟩
  | 125 => ⟨S32x384x32x32, .f32⟩
  | 126 => ⟨S32x384x32x32, .f32⟩
  | 127 => ⟨S32x384x32x32, .f32⟩
  | _ => ⟨S32x384x32x32, .f32⟩

abbrev hbmTy0_1 (i : Nat) : BufTy := match i % 128 with
  | 0 => ⟨S32x384x32x32, .f32⟩
  | 1 => ⟨S384x1x1x1, .f32⟩
  | 2 => ⟨S384, .f32⟩
  | 3 => ⟨S1x384x1x1, .f32⟩
  | 4 => ⟨S32x384x32x32, .f32⟩
  | 5 => ⟨S32x384x32x32, .f32⟩
  | 6 => ⟨S32x384x32x32, .f32⟩
  | 7 => ⟨S32x384x32x32, .f32⟩
  | 8 => ⟨S384x1x1x1, .f32⟩
  | 9 => ⟨S384, .f32⟩
  | 10 => ⟨S1x384x1x1, .f32⟩
  | 11 => ⟨S32x384x32x32, .f32⟩
  | 12 => ⟨S32x384x32x32, .f32⟩
  | 13 => ⟨S32x384x32x32, .f32⟩
  | 14 => ⟨S32x384x32x32, .f32⟩
  | 15 => ⟨S384x1x1x1, .f32⟩
  | 16 => ⟨S384, .f32⟩
  | 17 => ⟨S1x384x1x1, .f32⟩
  | 18 => ⟨S32x384x32x32, .f32⟩
  | 19 => ⟨S32x384x32x32, .f32⟩
  | 20 => ⟨S32x384x32x32, .f32⟩
  | 21 => ⟨S32x384x32x32, .f32⟩
  | 22 => ⟨S384x1x1x1, .f32⟩
  | 23 => ⟨S384, .f32⟩
  | 24 => ⟨S1x384x1x1, .f32⟩
  | 25 => ⟨S32x384x32x32, .f32⟩
  | 26 => ⟨S32x384x32x32, .f32⟩
  | 27 => ⟨S32x384x32x32, .f32⟩
  | 28 => ⟨S32x384x32x32, .f32⟩
  | 29 => ⟨S384x1x1x1, .f32⟩
  | 30 => ⟨S384, .f32⟩
  | 31 => ⟨S1x384x1x1, .f32⟩
  | 32 => ⟨S32x384x32x32, .f32⟩
  | 33 => ⟨S32x384x32x32, .f32⟩
  | 34 => ⟨S32x384x32x32, .f32⟩
  | 35 => ⟨S32x384x32x32, .f32⟩
  | 36 => ⟨S384x1x1x1, .f32⟩
  | 37 => ⟨S384, .f32⟩
  | 38 => ⟨S1x384x1x1, .f32⟩
  | 39 => ⟨S32x384x32x32, .f32⟩
  | 40 => ⟨S32x384x32x32, .f32⟩
  | 41 => ⟨S32x384x32x32, .f32⟩
  | 42 => ⟨S32x384x32x32, .f32⟩
  | 43 => ⟨S384x1x1x1, .f32⟩
  | 44 => ⟨S384, .f32⟩
  | 45 => ⟨S1x384x1x1, .f32⟩
  | 46 => ⟨S32x384x32x32, .f32⟩
  | 47 => ⟨S32x384x32x32, .f32⟩
  | 48 => ⟨S32x384x32x32, .f32⟩
  | 49 => ⟨S32x384x32x32, .f32⟩
  | 50 => ⟨S384x1x1x1, .f32⟩
  | 51 => ⟨S384, .f32⟩
  | 52 => ⟨S1x384x1x1, .f32⟩
  | 53 => ⟨S32x384x32x32, .f32⟩
  | 54 => ⟨S32x384x32x32, .f32⟩
  | 55 => ⟨S32x384x32x32, .f32⟩
  | 56 => ⟨S32x384x32x32, .f32⟩
  | 57 => ⟨S384x1x1x1, .f32⟩
  | 58 => ⟨S384, .f32⟩
  | 59 => ⟨S1x384x1x1, .f32⟩
  | 60 => ⟨S32x384x32x32, .f32⟩
  | 61 => ⟨S32x384x32x32, .f32⟩
  | 62 => ⟨S32x384x32x32, .f32⟩
  | 63 => ⟨S32x384x32x32, .f32⟩
  | 64 => ⟨S384x1x1x1, .f32⟩
  | 65 => ⟨S384, .f32⟩
  | 66 => ⟨S1x384x1x1, .f32⟩
  | 67 => ⟨S32x384x32x32, .f32⟩
  | 68 => ⟨S32x384x32x32, .f32⟩
  | 69 => ⟨S32x384x32x32, .f32⟩
  | 70 => ⟨S32x384x32x32, .f32⟩
  | 71 => ⟨S384x1x1x1, .f32⟩
  | 72 => ⟨S384, .f32⟩
  | 73 => ⟨S1x384x1x1, .f32⟩
  | 74 => ⟨S32x384x32x32, .f32⟩
  | 75 => ⟨S32x384x32x32, .f32⟩
  | 76 => ⟨S32x384x32x32, .f32⟩
  | 77 => ⟨S32x384x32x32, .f32⟩
  | 78 => ⟨S384x1x1x1, .f32⟩
  | 79 => ⟨S384, .f32⟩
  | 80 => ⟨S1x384x1x1, .f32⟩
  | 81 => ⟨S32x384x32x32, .f32⟩
  | 82 => ⟨S32x384x32x32, .f32⟩
  | 83 => ⟨S32x384x32x32, .f32⟩
  | 84 => ⟨S32x384x32x32, .f32⟩
  | 85 => ⟨S384x1x1x1, .f32⟩
  | 86 => ⟨S384, .f32⟩
  | 87 => ⟨S1x384x1x1, .f32⟩
  | 88 => ⟨S32x384x32x32, .f32⟩
  | 89 => ⟨S32x384x32x32, .f32⟩
  | 90 => ⟨S32x384x32x32, .f32⟩
  | 91 => ⟨S32x384x32x32, .f32⟩
  | 92 => ⟨S384x1x1x1, .f32⟩
  | 93 => ⟨S384, .f32⟩
  | 94 => ⟨S1x384x1x1, .f32⟩
  | 95 => ⟨S32x384x32x32, .f32⟩
  | 96 => ⟨S32x384x32x32, .f32⟩
  | 97 => ⟨S32x384x32x32, .f32⟩
  | 98 => ⟨S32x384x32x32, .f32⟩
  | 99 => ⟨S384x1x1x1, .f32⟩
  | 100 => ⟨S384, .f32⟩
  | 101 => ⟨S1x384x1x1, .f32⟩
  | 102 => ⟨S32x384x32x32, .f32⟩
  | 103 => ⟨S32x384x32x32, .f32⟩
  | 104 => ⟨S32x384x32x32, .f32⟩
  | 105 => ⟨S32x384x32x32, .f32⟩
  | 106 => ⟨S384x1x1x1, .f32⟩
  | 107 => ⟨S384, .f32⟩
  | 108 => ⟨S1x384x1x1, .f32⟩
  | 109 => ⟨S32x384x32x32, .f32⟩
  | 110 => ⟨S32x384x32x32, .f32⟩
  | 111 => ⟨S32x384x32x32, .f32⟩
  | 112 => ⟨S32x384x32x32, .f32⟩
  | 113 => ⟨S384x1x1x1, .f32⟩
  | 114 => ⟨S384, .f32⟩
  | 115 => ⟨S1x384x1x1, .f32⟩
  | 116 => ⟨S32x384x32x32, .f32⟩
  | 117 => ⟨S32x384x32x32, .f32⟩
  | 118 => ⟨S32x384x32x32, .f32⟩
  | 119 => ⟨S32x384x32x32, .f32⟩
  | 120 => ⟨S384x1x1x1, .f32⟩
  | 121 => ⟨S384, .f32⟩
  | 122 => ⟨S1x384x1x1, .f32⟩
  | 123 => ⟨S32x384x32x32, .f32⟩
  | 124 => ⟨S32x384x32x32, .f32⟩
  | 125 => ⟨S32x384x32x32, .f32⟩
  | 126 => ⟨S1x384x1x1, .f32⟩
  | 127 => ⟨S32x384x32x32, .f32⟩
  | _ => ⟨S32x384x32x32, .f32⟩

abbrev hbmTy0_2 (i : Nat) : BufTy := match i % 128 with
  | 0 => ⟨S32x384x32x32, .f32⟩
  | 1 => ⟨S32x1152x32x32, .f32⟩
  | 2 => ⟨S768x32x32x32, .f32⟩
  | 3 => ⟨S32x768x32x32, .f32⟩
  | 4 => ⟨S1x768x1x1, .f32⟩
  | 5 => ⟨S32x768x32x32, .f32⟩
  | 6 => ⟨S32x768x32x32, .f32⟩
  | 7 => ⟨S32x768x1024, .f32⟩
  | 8 => ⟨S32x1024x768, .f32⟩
  | 9 => ⟨S_, .f32⟩
  | 10 => ⟨S32x1024, .f32⟩
  | 11 => ⟨S32x1024x1, .f32⟩
  | 12 => ⟨S_, .f32⟩
  | 13 => ⟨S32x1024x1, .f32⟩
  | 14 => ⟨S32x1024x1, .f32⟩
  | 15 => ⟨S32x1024x768, .f32⟩
  | 16 => ⟨S32x1024x768, .f32⟩
  | 17 => ⟨S32x1024x768, .f32⟩
  | 18 => ⟨S_, .f32⟩
  | 19 => ⟨S32x1024, .f32⟩
  | 20 => ⟨S32x1024x1, .f32⟩
  | 21 => ⟨S_, .f32⟩
  | 22 => ⟨S32x1024x1, .f32⟩
  | 23 => ⟨S32x1024x1, .f32⟩
  | 24 => ⟨S32x1024x768, .f32⟩
  | 25 => ⟨S32x1024x768, .f32⟩
  | 26 => ⟨S_, .f32⟩
  | 27 => ⟨S32x1024x1, .f32⟩
  | 28 => ⟨S32x1024x1, .f32⟩
  | 29 => ⟨S32x1024x1, .f32⟩
  | 30 => ⟨S32x1024x768, .f32⟩
  | 31 => ⟨S32x1024x768, .f32⟩
  | 32 => ⟨S1x1x768, .f32⟩
  | 33 => ⟨S32x1024x768, .f32⟩
  | 34 => ⟨S32x1024x768, .f32⟩
  | 35 => ⟨S1x1x768, .f32⟩
  | 36 => ⟨S32x1024x768, .f32⟩
  | 37 => ⟨S32x1024x768, .f32⟩
  | 38 => ⟨S_, .f32⟩
  | 39 => ⟨S32x1024x768, .f32⟩
  | 40 => ⟨S32x1024x768, .f32⟩
  | 41 => ⟨S32x1024x768, .f32⟩
  | 42 => ⟨S_, .f32⟩
  | 43 => ⟨S_, .f32⟩
  | 44 => ⟨S32x1024x768, .f32⟩
  | 45 => ⟨S32x1024x768, .f32⟩
  | 46 => ⟨S32x1024x768, .f32⟩
  | 47 => ⟨S32x1024x768, .f32⟩
  | _ => ⟨S32x384x32x32, .f32⟩

abbrev hbmTy (i : Nat) : BufTy := match i / 128 with
  | 0 => hbmTy0_0 i
  | 1 => hbmTy0_1 i
  | 2 => hbmTy0_2 i
  | _ => ⟨S32x384x32x32, .f32⟩

abbrev bufTy : (tb : Table) → Fin (tcTables nBuf tb) → BufTy
  | .hbm, ⟨i, _⟩ => hbmTy i
  | _, _ => ⟨S32x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_c_0 : Ref sig .tc := ⟨.hbm, 77, rfl⟩
abbrev main_call1_v0 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst : Ref sig .tc := ⟨.hbm, 265, rfl⟩
abbrev main_v252 : Ref sig .tc := ⟨.hbm, 266, rfl⟩
abbrev main_v253 : Ref sig .tc := ⟨.hbm, 267, rfl⟩
abbrev main_cst_1 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_cst_2 : Ref sig .tc := ⟨.hbm, 274, rfl⟩
abbrev main_v259 : Ref sig .tc := ⟨.hbm, 275, rfl⟩
abbrev main_v260 : Ref sig .tc := ⟨.hbm, 276, rfl⟩
abbrev main_cst_3 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_cst_4 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩
abbrev main_cst_5 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_cst_6 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩

abbrev nD : Nat := 1
abbrev τ : Topo := Topo.v7x

variable {F : FTy → Type} [FloatOps F]
-- ==== Proof.Taps.lean ====
module

public import proofs.«01_k».proof.Proof.Gen.KernelIdeal.Frame
public import Idealize.ShloMosaic.Lib.Pointwise

@[expose] public section

noncomputable section

namespace Cert.Taps

open Idealize.ShloMosaic Cert.KernelIdeal Cert.KernelIdeal.Gen

/-! ## A zero-padded image -/

/-- One channel's 32 × 32 image continued by zero to all integer coordinates. -/
def pix (Y : Fin 32 → Fin 32 → EReal) (i j : ℤ) : EReal :=
  if h : (0 ≤ i ∧ i < 32) ∧ (0 ≤ j ∧ j < 32) then Y ⟨i.toNat, by omega⟩ ⟨j.toNat, by omega⟩ else 0

/-- Outside the rows the padded image is zero. -/
theorem pix_row (Y : Fin 32 → Fin 32 → EReal) (i j : ℤ) (h : ¬(0 ≤ i ∧ i < 32)) : pix Y i j = 0 :=
  dif_neg fun h' => h h'.1

/-- Outside the columns the padded image is zero. -/
theorem pix_col (Y : Fin 32 → Fin 32 → EReal) (i j : ℤ) (h : ¬(0 ≤ j ∧ j < 32)) : pix Y i j = 0 :=
  dif_neg fun h' => h h'.2

/-- Inside, the padded image is the image. -/
theorem pix_in (Y : Fin 32 → Fin 32 → EReal) (i j : ℤ) (a b : Fin 32) (hi : i = a.val) (hj : j = b.val) :
    pix Y i j = Y a b := by
  subst hi hj
  unfold pix
  rw [dif_pos ⟨⟨by omega, by omega⟩, ⟨by omega, by omega⟩⟩]
  congr 1

/-- The row of the pixel at a flat position. -/
def rowOf (q : Fin 1024) : Fin 32 := ⟨q.val / 32, by omega⟩

/-- The column of the pixel at a flat position. -/
def colOf (q : Fin 1024) : Fin 32 := ⟨q.val % 32, by omega⟩

/-- The image at an offset from the pixel whose flat position is `p`. -/
def tap (Y : Fin 32 → Fin 32 → EReal) (p : Fin 1024) (a b : ℤ) : EReal :=
  pix Y (((p.val / 32 : ℕ) : ℤ) + a) (((p.val % 32 : ℕ) : ℤ) + b)

/-! ## Rolls, tiles and masks -/

/-- A bf16 image rolled along its lanes, word by word: the even rows and the odd rows are rotated alike, so the
    whole image is. -/
theorem roll_apply (x : FVec Ideal S384x1024 .bf16) (n : BitVec 32) (c : Fin 384) (p : Fin 1024) :
    interleaveRows S384x1024
      (dynamicRotate 1 n none (rowsOfParity 0 S192x1024 x bitcasts_S384x1024_w16_S192x1024_w32) rotates_S192x1024_d1)
      (dynamicRotate 1 n none (rowsOfParity 1 S192x1024 x bitcasts_S384x1024_w16_S192x1024_w32) rotates_S192x1024_d1)
      bitcasts_S384x1024_w16_S192x1024_w32 (ix2 c p)
      = x (ix2 c ⟨(p.val + 1024 - n.toNat % 1024) % 1024, Nat.mod_lt _ (by decide)⟩) := by
  pointwise
  split
  · congr 2; apply Fin.ext; show 2 * (c.val / 2) = c.val; omega
  · congr 2; apply Fin.ext; show 2 * (c.val / 2) + 1 = c.val; omega

/-- Eight copies of a 128-lane block side by side: lane `p` reads the block's lane `p` modulo 128. -/
theorem tile_apply (v : FVec Ideal S384x128 .bf16) (c : Fin 384) (p : Fin 1024) :
    concatenate S384x1024 1 [⟨S384x128, v⟩, ⟨S384x128, v⟩, ⟨S384x128, v⟩, ⟨S384x128, v⟩, ⟨S384x128, v⟩, ⟨S384x128, v⟩, ⟨S384x128, v⟩, ⟨S384x128, v⟩] concatenates_S384x128_S384x128_S384x128_S384x128_S384x128_S384x128_S384x128_S384x128_S384x1024_d1 (ix2 c p)
      = v (ix2 c ⟨p.val % 128, Nat.mod_lt _ (by decide)⟩) := by
  pointwise
  have hp := p.isLt
  repeat' split
  all_goals (congr 2; apply Fin.ext; show _ = p.val % 128; dsimp only; omega)

/-- A lane number's five low bits, as a word. -/
theorem andi_word (p : Fin 1024) : IntOp.andi (BitVec.ofNat 32 p.val) 31#32 = BitVec.ofNat 32 (p.val % 32) := by
  apply BitVec.eq_of_toNat_eq
  show (BitVec.ofNat 32 p.val &&& 31#32).toNat = _
  rw [BitVec.toNat_and, BitVec.toNat_ofNat, BitVec.toNat_ofNat, BitVec.toNat_ofNat,
    Nat.mod_eq_of_lt (by omega : p.val < 2 ^ 32), Nat.mod_eq_of_lt (by omega : p.val % 32 < 2 ^ 32),
    Nat.mod_eq_of_lt (by norm_num : 31 < 2 ^ 32), show (31 : ℕ) = 2 ^ 5 - 1 from rfl, Nat.and_two_pow_sub_one_eq_mod]

/-- A lane number shifted right by five, as a word. -/
theorem shrsi_word (p : Fin 1024) :
    IntOp.shrsi .vector (BitVec.ofNat 32 p.val) 5#32 = BitVec.ofNat 32 (p.val / 32) := by
  show (BitVec.ofNat 32 p.val).sshiftRight 5 = _
  apply BitVec.eq_of_toNat_eq
  rw [BitVec.sshiftRight_eq_of_msb_false, BitVec.toNat_ushiftRight, BitVec.toNat_ofNat, BitVec.toNat_ofNat,
    Nat.mod_eq_of_lt (by omega : p.val < 2 ^ 32), Nat.mod_eq_of_lt (by omega : p.val / 32 < 2 ^ 32),
    Nat.shiftRight_eq_div_pow]
  rw [BitVec.msb_eq_false_iff_two_mul_lt, BitVec.toNat_ofNat, Nat.mod_eq_of_lt (by omega : p.val < 2 ^ 32)]
  omega

/-- The mask's word at a row or column `r` moved by `d` is one exactly where the moved one is still in the image. -/
theorem moveWord : ∀ kd ∈ [((4294967294#32 : BitVec 32), (-2 : ℤ)), (4294967295#32, -1), (1#32, 1), (2#32, 2)],
    ∀ r : Fin 32,
    IntOp.andi (IntOp.cmpi .sge (IntOp.addi (BitVec.ofNat 32 r.val) kd.1) 0#32)
        (IntOp.cmpi .slt (IntOp.addi (BitVec.ofNat 32 r.val) kd.1) 32#32) = 1
      ↔ (0 ≤ (r.val : ℤ) + kd.2 ∧ (r.val : ℤ) + kd.2 < 32) := by
  decide +kernel

/-- The column mask's word is one exactly where the column moved by `dw` is still in the image. -/
theorem colWord (k : BitVec 32) (d : ℤ) (h : (k, d) ∈ [((4294967294#32 : BitVec 32), (-2 : ℤ)), (4294967295#32, -1), (1#32, 1), (2#32, 2)])
    (p : Fin 1024) :
    IntOp.andi (IntOp.cmpi .sge (IntOp.addi (IntOp.andi (BitVec.ofNat 32 p.val) 31#32) k) 0#32)
        (IntOp.cmpi .slt (IntOp.addi (IntOp.andi (BitVec.ofNat 32 p.val) 31#32) k) 32#32) = 1
      ↔ (0 ≤ ((p.val % 32 : ℕ) : ℤ) + d ∧ ((p.val % 32 : ℕ) : ℤ) + d < 32) := by
  rw [andi_word]
  exact moveWord (k, d) h ⟨p.val % 32, by omega⟩

/-- The row mask's word is one exactly where the row moved by `dh` is still in the image. -/
theorem rowWord (k : BitVec 32) (d : ℤ) (h : (k, d) ∈ [((4294967294#32 : BitVec 32), (-2 : ℤ)), (4294967295#32, -1), (1#32, 1), (2#32, 2)])
    (p : Fin 1024) :
    IntOp.andi (IntOp.cmpi .sge (IntOp.addi (IntOp.shrsi .vector (BitVec.ofNat 32 p.val) 5#32) k) 0#32)
        (IntOp.cmpi .slt (IntOp.addi (IntOp.shrsi .vector (BitVec.ofNat 32 p.val) 5#32) k) 32#32) = 1
      ↔ (0 ≤ ((p.val / 32 : ℕ) : ℤ) + d ∧ ((p.val / 32 : ℕ) : ℤ) + d < 32) := by
  rw [shrsi_word]
  exact moveWord (k, d) h ⟨p.val / 32, by omega⟩

/-- A select whose word says "inside" between a value of the moved position and zero is the value at the moved
    coordinates, for a value that is zero outside. -/
theorem sel_eq (c : BitVec 1) (P : Prop) (hc : c = 1 ↔ P) (a b : EReal) (h1 : P → a = b) (h0 : ¬P → b = 0) :
    Scalar.select c a 0 = b := by
  unfold Scalar.select
  by_cases h : P
  · rw [if_pos (hc.mpr h)]; exact h1 h
  · rw [if_neg fun h' => h (hc.mp h')]; exact (h0 h).symm

section Columns

variable (x0 : Vec Ideal S1x384x1024 .f32) (Y : Fin 384 → Fin 32 → Fin 32 → EReal)
  (hx : ∀ (c : Fin 384) (q : Fin 1024), x0 (ix3 0 c q) = Y c (rowOf q) (colOf q))

include hx

/-- The block's image itself. -/
theorem pay3_apply (c : Fin 384) (p : Fin 1024) : k0_pay3 x0 (ix2 c p) = tap (Y c) p 0 0 := by
  unfold k0_pay3
  pointwise
  rw [hx]
  unfold tap
  rw [pix_in (Y c) _ _ (rowOf p) (colOf p) (by simp [rowOf]) (by simp [colOf])]

/-- The image two columns to the left. -/
theorem pay4_apply (c : Fin 384) (p : Fin 1024) : k0_pay4 x0 (ix2 c p) = tap (Y c) p 0 (-2) := by
  unfold k0_pay4 k0_pay2
  dsimp only
  simp only [mulf_apply]
  rw [roll_apply]
  pointwise
  refine sel_eq _ _ (colWord 4294967294#32 (-2) (by decide) p) _ _ (fun h => ?_) fun h => pix_col _ _ _ h
  rw [pay3_apply x0 Y hx]
  have hp := p.isLt
  unfold tap
  congr 1
  · dsimp only; omega
  · dsimp only; omega

/-- The image one column to the left. -/
theorem pay5_apply (c : Fin 384) (p : Fin 1024) : k0_pay5 x0 (ix2 c p) = tap (Y c) p 0 (-1) := by
  unfold k0_pay5 k0_pay2
  dsimp only
  simp only [mulf_apply]
  rw [roll_apply]
  pointwise
  refine sel_eq _ _ (colWord 4294967295#32 (-1) (by decide) p) _ _ (fun h => ?_) fun h => pix_col _ _ _ h
  rw [pay3_apply x0 Y hx]
  have hp := p.isLt
  unfold tap
  congr 1
  · dsimp only; omega
  · dsimp only; omega

/-- The image one column to the right. -/
theorem pay6_apply (c : Fin 384) (p : Fin 1024) : k0_pay6 k0_pay2 (k0_pay3 x0) 1#32 (ix2 c p) = tap (Y c) p 0 (1) := by
  unfold k0_pay6 k0_pay2
  dsimp only
  simp only [mulf_apply]
  rw [roll_apply]
  pointwise
  refine sel_eq _ _ (colWord 1#32 (1) (by decide) p) _ _ (fun h => ?_) fun h => pix_col _ _ _ h
  rw [pay3_apply x0 Y hx]
  have hp := p.isLt
  unfold tap
  congr 1
  · dsimp only; omega
  · dsimp only; omega

/-- The image two columns to the right. -/
theorem pay7_apply (c : Fin 384) (p : Fin 1024) : k0_pay7 k0_pay2 (k0_pay3 x0) (ix2 c p) = tap (Y c) p 0 (2) := by
  unfold k0_pay7 k0_pay2
  dsimp only
  simp only [mulf_apply]
  rw [roll_apply]
  pointwise
  refine sel_eq _ _ (colWord 2#32 (2) (by decide) p) _ _ (fun h => ?_) fun h => pix_col _ _ _ h
  rw [pay3_apply x0 Y hx]
  have hp := p.isLt
  unfold tap
  congr 1
  · dsimp only; omega
  · dsimp only; omega

end Columns

/-- The image moved by columns and then rolled by rows is the image at both offsets, while the row stays inside. -/
theorem tap_roll (n : ℕ) (dh : ℤ) (hn : (n, dh) ∈ [(64, (-2 : ℤ)), (32, -1), (992, 1), (960, 2)])
    (Y : Fin 32 → Fin 32 → EReal) (p : Fin 1024) (b : ℤ)
    (h : 0 ≤ ((p.val / 32 : ℕ) : ℤ) + dh ∧ ((p.val / 32 : ℕ) : ℤ) + dh < 32) (h' : (p.val + 1024 - n) % 1024 < 1024) :
    tap Y ⟨(p.val + 1024 - n) % 1024, h'⟩ 0 b = tap Y p dh b := by
  have hp := p.isLt
  simp only [List.mem_cons, Prod.mk.injEq, List.not_mem_nil, or_false] at hn
  unfold tap
  rcases hn with ⟨rfl, rfl⟩ | ⟨rfl, rfl⟩ | ⟨rfl, rfl⟩ | ⟨rfl, rfl⟩ <;>
  · congr 1
    · dsimp only; omega
    · dsimp only; omega

/-- Outside the rows a tap is zero. -/
theorem tap_out (Y : Fin 32 → Fin 32 → EReal) (p : Fin 1024) (dh b : ℤ)
    (h : ¬(0 ≤ ((p.val / 32 : ℕ) : ℤ) + dh ∧ ((p.val / 32 : ℕ) : ℤ) + dh < 32)) : tap Y p dh b = 0 := pix_row _ _ _ h

/-- Three neighbouring taps of one row, weighted. -/
def narrow (Y : Fin 32 → Fin 32 → EReal) (p : Fin 1024) (dh : ℤ) (a0 a1 a2 : EReal) : EReal :=
  tap Y p dh (-1) * a0 + tap Y p dh 0 * a1 + tap Y p dh 1 * a2

/-- Five neighbouring taps of one row, weighted. -/
def wide (Y : Fin 32 → Fin 32 → EReal) (p : Fin 1024) (dh : ℤ) (a0 a1 a2 a3 a4 : EReal) : EReal :=
  tap Y p dh (-2) * a0 + tap Y p dh (-1) * a1 + tap Y p dh 0 * a2 + tap Y p dh 1 * a3 + tap Y p dh 2 * a4

/-- The lane numbers of a row of 1024. -/
abbrev lanes : IVec S1x1024 32 := iota .tc S1x1024 32 [1] iota_S1x1024_d1_w32

/-- The product of a channel-major image with a mixing matrix: a sum over the channels. -/
theorem mm_apply (L : FVec Ideal S384x1024 .bf16) (R : FVec Ideal S768x384 .bf16) (p : Fin 1024) (d : Fin 768) :
    matmul dot_S384x1024_S768x384_S1024x768_0_1_1_0_n_n none L R (constant S1024x768 .f32 0x00000000#32) (ix2 p d)
      = ∑ c : Fin 384, L (ix2 c p) * R (ix2 d c) := by
  pointwise

section Rows

variable (v5 v21 v37 v53 v69 : FVec Ideal S384x1024 .bf16) (Y : Fin 384 → Fin 32 → Fin 32 → EReal)
  (h5 : ∀ c p, v5 (ix2 c p) = tap (Y c) p 0 0) (h21 : ∀ c p, v21 (ix2 c p) = tap (Y c) p 0 (-2))
  (h37 : ∀ c p, v37 (ix2 c p) = tap (Y c) p 0 (-1)) (h53 : ∀ c p, v53 (ix2 c p) = tap (Y c) p 0 1)
  (h69 : ∀ c p, v69 (ix2 c p) = tap (Y c) p 0 2) (u : FVec Ideal S384x1024 .bf16)
  (W0 W1 W2 W3 W4 : Vec Ideal S384x128 .bf16) (a0 a1 a2 a3 a4 : Fin 384 → EReal)
  (H0 : ∀ c l, W0 (ix2 c l) = a0 c) (H1 : ∀ c l, W1 (ix2 c l) = a1 c) (H2 : ∀ c l, W2 (ix2 c l) = a2 c)
  (H3 : ∀ c l, W3 (ix2 c l) = a3 c) (H4 : ∀ c l, W4 (ix2 c l) = a4 c)

include h5 h37 h53 H0 H1 H2

/-- The 3 × 3 filter's row above. -/
theorem pay11_apply (c : Fin 384) (p : Fin 1024) :
    k0_pay11 lanes v5 v37 v53 W0 W1 W2 (ix2 c p) = narrow (Y c) p (-1) (a0 c) (a1 c) (a2 c) := by
  unfold k0_pay11
  dsimp only
  simp only [mulf_apply]
  rw [roll_apply]
  simp only [addf_apply, mulf_apply]
  repeat rw [tile_apply]
  pointwise
  refine sel_eq _ _ (rowWord 4294967295#32 (-1) (by decide) p) _ _ (fun h => ?_) (fun h => ?_)
  · rw [h37, h5, h53, H0, H1, H2, tap_roll 32 (-1) (by decide) _ p _ h, tap_roll 32 (-1) (by decide) _ p _ h,
      tap_roll 32 (-1) (by decide) _ p _ h]
    rfl
  · unfold narrow
    simp only [tap_out _ p (-1) _ h, zero_mul, add_zero]

/-- The 3 × 3 filter's middle row. -/
theorem pay10_apply (c : Fin 384) (p : Fin 1024) :
    k0_pay10 v5 v53 (k0_pay9 v37 W0) W1 W2 (ix2 c p) = narrow (Y c) p 0 (a0 c) (a1 c) (a2 c) := by
  unfold k0_pay10 k0_pay9
  dsimp only
  simp only [addf_apply, mulf_apply]
  repeat rw [tile_apply]
  pointwise
  rw [h37, h5, h53, H0, H1, H2]
  rfl

/-- The 3 × 3 filter's row below, added to the other two, and the product of the three with the mixing matrix. -/
theorem pay12_apply (v72 : FVec Ideal S1024x768 .f32) (v86 v118 : FVec Ideal S384x1024 .bf16)
    (V : Vec Ideal S768x384 .bf16) (p : Fin 1024) (d : Fin 768) :
    k0_pay12 lanes v5 v37 v53 v72 v86 v118 W0 W1 W2 V (ix2 p d)
      = v72 (ix2 p d) + ∑ c : Fin 384,
          (v86 (ix2 c p) + v118 (ix2 c p) + narrow (Y c) p 1 (a0 c) (a1 c) (a2 c)) * V (ix2 d c) := by
  unfold k0_pay12
  dsimp only
  simp only [addf_apply]
  rw [mm_apply]
  refine congrArg₂ (· + ·) rfl (Finset.sum_congr rfl fun c _ => ?_)
  simp only [addf_apply, mulf_apply]
  rw [roll_apply]
  simp only [addf_apply, mulf_apply]
  repeat rw [tile_apply]
  pointwise
  refine congrArg₂ (· * ·) (congrArg₂ (· + ·) rfl ?_) rfl
  refine sel_eq _ _ (rowWord 1#32 (1) (by decide) p) _ _ (fun h => ?_) (fun h => ?_)
  · rw [h37, h5, h53, H0, H1, H2, tap_roll 992 (1) (by decide) _ p _ h, tap_roll 992 (1) (by decide) _ p _ h,
      tap_roll 992 (1) (by decide) _ p _ h]
    rfl
  · unfold narrow
    simp only [tap_out _ p (1) _ h, zero_mul, add_zero]

omit h5 h37 h53 H0 H1 H2 in
/-- The image's own channels, mixed. -/
theorem pay8_apply (V : Vec Ideal S768x384 .bf16) (p : Fin 1024) (d : Fin 768) :
    k0_pay8 v5 V (ix2 p d) = ∑ c : Fin 384, v5 (ix2 c p) * V (ix2 d c) := by
  unfold k0_pay8
  rw [mm_apply]
  pointwise

include h21 h69 H3 H4

/-- The 5 × 5 filter's middle row. -/
theorem pay14_apply (c : Fin 384) (p : Fin 1024) :
    k0_pay14 v5 v21 v37 v53 v69 (k0_pay13 W0) W1 W2 W3 W4 (ix2 c p)
      = wide (Y c) p 0 (a0 c) (a1 c) (a2 c) (a3 c) (a4 c) := by
  unfold k0_pay14 k0_pay13
  dsimp only
  simp only [addf_apply, mulf_apply]
  repeat rw [tile_apply]
  pointwise
  rw [h21, h37, h5, h53, h69, H0, H1, H2, H3, H4]
  rfl

/-- The 5 × 5 filter's uppermost row, added. -/
theorem pay16_apply (c : Fin 384) (p : Fin 1024) :
    k0_pay16 lanes v69 u (k0_pay15 v5 v21 v37 v53 W0 W1 W2 W3) W4 (ix2 c p)
      = u (ix2 c p) + wide (Y c) p (-2) (a0 c) (a1 c) (a2 c) (a3 c) (a4 c) := by
  unfold k0_pay16 k0_pay15
  dsimp only
  simp only [addf_apply, mulf_apply]
  rw [roll_apply]
  simp only [addf_apply, mulf_apply]
  repeat rw [tile_apply]
  pointwise
  refine congrArg₂ (· + ·) rfl ?_
  refine sel_eq _ _ (rowWord 4294967294#32 (-2) (by decide) p) _ _ (fun h => ?_) (fun h => ?_)
  · rw [h21, h37, h5, h53, h69, H0, H1, H2, H3, H4, tap_roll 64 (-2) (by decide) _ p _ h, tap_roll 64 (-2) (by decide) _ p _ h,
      tap_roll 64 (-2) (by decide) _ p _ h, tap_roll 64 (-2) (by decide) _ p _ h,
      tap_roll 64 (-2) (by decide) _ p _ h]
    rfl
  · unfold wide
    simp only [tap_out _ p (-2) _ h, zero_mul, add_zero]

/-- The 5 × 5 filter's row above the middle, added. -/
theorem pay18_apply (c : Fin 384) (p : Fin 1024) :
    k0_pay18 lanes v69 u (k0_pay17 v5 v21 v37 v53 W0 W1 W2 W3) W4 (ix2 c p)
      = u (ix2 c p) + wide (Y c) p (-1) (a0 c) (a1 c) (a2 c) (a3 c) (a4 c) := by
  unfold k0_pay18 k0_pay17
  dsimp only
  simp only [addf_apply, mulf_apply]
  rw [roll_apply]
  simp only [addf_apply, mulf_apply]
  repeat rw [tile_apply]
  pointwise
  refine congrArg₂ (· + ·) rfl ?_
  refine sel_eq _ _ (rowWord 4294967295#32 (-1) (by decide) p) _ _ (fun h => ?_) (fun h => ?_)
  · rw [h21, h37, h5, h53, h69, H0, H1, H2, H3, H4, tap_roll 32 (-1) (by decide) _ p _ h, tap_roll 32 (-1) (by decide) _ p _ h,
      tap_roll 32 (-1) (by decide) _ p _ h, tap_roll 32 (-1) (by decide) _ p _ h,
      tap_roll 32 (-1) (by decide) _ p _ h]
    rfl
  · unfold wide
    simp only [tap_out _ p (-1) _ h, zero_mul, add_zero]

/-- The 5 × 5 filter's row below the middle, added. -/
theorem pay21_apply (c : Fin 384) (p : Fin 1024) :
    k0_pay21 lanes v69 u (k0_pay19 v5 v21 v37 W0 W1 W2) (k0_pay20 v53 W3) W4 (ix2 c p)
      = u (ix2 c p) + wide (Y c) p (1) (a0 c) (a1 c) (a2 c) (a3 c) (a4 c) := by
  unfold k0_pay21 k0_pay19 k0_pay20
  dsimp only
  simp only [addf_apply, mulf_apply]
  rw [roll_apply]
  simp only [addf_apply, mulf_apply]
  repeat rw [tile_apply]
  pointwise
  refine congrArg₂ (· + ·) rfl ?_
  refine sel_eq _ _ (rowWord 1#32 (1) (by decide) p) _ _ (fun h => ?_) (fun h => ?_)
  · rw [h21, h37, h5, h53, h69, H0, H1, H2, H3, H4, tap_roll 992 (1) (by decide) _ p _ h, tap_roll 992 (1) (by decide) _ p _ h,
      tap_roll 992 (1) (by decide) _ p _ h, tap_roll 992 (1) (by decide) _ p _ h,
      tap_roll 992 (1) (by decide) _ p _ h]
    rfl
  · unfold wide
    simp only [tap_out _ p (1) _ h, zero_mul, add_zero]

/-- What is mixed of the image and its two filtered copies, before the mean is taken off. -/
def mixed (v156 : FVec Ideal S1024x768 .f32) (g : Fin 384 → Fin 1024 → EReal) (V : Vec Ideal S768x384 .bf16)
    (B : Vec Ideal S1x768 .f32) (p : Fin 1024) (d : Fin 768) : EReal :=
  v156 (ix2 p d) + ∑ c : Fin 384, g c p * V (ix2 d c) + B (ix2 0 d)

/-- The 5 × 5 filter's lowest row, added; its product with the mixing matrix, added; the bias; less the mean. -/
theorem pay24_apply (v156 : FVec Ideal S1024x768 .f32) (V : Vec Ideal S768x384 .bf16) (B : Vec Ideal S1x768 .f32)
    (g : Fin 384 → Fin 1024 → EReal)
    (hg : ∀ c p, u (ix2 c p) + wide (Y c) p 2 (a0 c) (a1 c) (a2 c) (a3 c) (a4 c) = g c p)
    (p : Fin 1024) (d : Fin 768) :
    k0_pay24 lanes v53 v69 v156 u (k0_pay22 v5 v21 v37 W0 W1 W2) (k0_pay23 W3) W4 V B (ix2 p d)
      = mixed v156 g V B p d - Ideal.div (∑ e : Fin 768, mixed v156 g V B p e) (Ideal.ofBits .f32 0x44400000#32) := by
  have less : ∀ A : FVec Ideal S1024x768 .f32, (∀ q e, A (ix2 q e) = mixed v156 g V B q e) →
      subf A (broadcastTo S1024x768 (divf (shapeCast S1024x1 (multiReduction .add [1] S1024 A 0x00000000#32
        reduces_S1024x768_S1024 (.inl rfl) rfl) shapeCasts_S1024_S1024x1)
        (broadcast S1024x1 (Scalar.ofBits .f32 0x44400000#32 : Ideal .f32))) broadcasts_S1024x1_S1024x768) (ix2 p d)
        = mixed v156 g V B p d - Ideal.div (∑ e : Fin 768, mixed v156 g V B p e) (Ideal.ofBits .f32 0x44400000#32) := by
    intro A hA
    pointwise
    simp only [hA]
  unfold k0_pay24 k0_pay22 k0_pay23
  refine less _ fun q e => ?_
  dsimp only
  unfold mixed
  simp only [addf_apply]
  rw [mm_apply]
  refine congrArg₂ (· + ·) (congrArg₂ (· + ·) rfl (Finset.sum_congr rfl fun c _ => ?_)) (by pointwise)
  rw [← hg]
  simp only [addf_apply, mulf_apply]
  rw [roll_apply]
  simp only [addf_apply, mulf_apply]
  repeat rw [tile_apply]
  pointwise
  refine congrArg₂ (· * ·) (congrArg₂ (· + ·) rfl ?_) rfl
  refine sel_eq _ _ (rowWord 2#32 (2) (by decide) q) _ _ (fun h => ?_) (fun h => ?_)
  · rw [h21, h37, h5, h53, h69, H0, H1, H2, H3, H4, tap_roll 960 (2) (by decide) _ q _ h, tap_roll 960 (2) (by decide) _ q _ h,
      tap_roll 960 (2) (by decide) _ q _ h, tap_roll 960 (2) (by decide) _ q _ h,
      tap_roll 960 (2) (by decide) _ q _ h]
    rfl
  · unfold wide
    simp only [tap_out _ q (2) _ h, zero_mul, add_zero]

end Rows

end Cert.Taps
-- ==== Proof.Norm.lean ====
module

public import Idealize.ShloMosaic.Lib.Pointwise

@[expose] public section

noncomputable section

namespace Cert.Norm

open Idealize.ShloMosaic

/-- The mean over the 768 features of a pixel. -/
def mean (A : Fin 768 → EReal) : EReal := Ideal.div (∑ e, A e) (Ideal.ofBits .f32 0x44400000#32)

/-- The layer norm over the 768 features of a pixel, scaled and shifted. -/
def normed (A γ β : Fin 768 → EReal) (d : Fin 768) : EReal :=
  (A d - mean A) * Ideal.rsqrt (mean (fun e => (A e - mean A) * (A e - mean A)) + Ideal.ofBits .f32 0x3727C5AC#32)
    * γ d + β d

/-- The exact GELU, the argument scaled by the reciprocal of the root of two. -/
def gelu (y : EReal) : EReal :=
  Ideal.ofBits .f32 0x3F000000#32 * y * (1 + Ideal.erf (y * (((Real.sqrt 2)⁻¹ : ℝ) : EReal)))

/-- The exact GELU as the complementary error function of the negated quotient by the root of two. -/
theorem gelu_erfc (y : EReal) :
    Ideal.ofBits .f32 0x3F000000#32 * y
        * Ideal.erfc (Ideal.div (-y) (Ideal.sqrt (Ideal.ofBits .f32 0x40000000#32))) = gelu y := by
  have two : Ideal.ofBits .f32 0x40000000#32 = ((2 : ℝ) : EReal) := by
    simp [Ideal.ofBits, Ideal.ieee, -EReal.coe_mul]
    norm_num
  have root : Ideal.sqrt ((2 : ℝ) : EReal) = ((Real.sqrt 2 : ℝ) : EReal) := by
    rw [Ideal.sqrt_coe, if_neg (by norm_num)]
  rw [two, root, Ideal.div_coe (by positivity), EReal.neg_mul, Ideal.erfc_neg, one_div]
  rfl

end Cert.Norm
-- ==== Proof.Block.lean ====
module

public import proofs.«01_k».proof.Proof.Taps
public import proofs.«01_k».proof.Proof.Norm
public import Idealize.ShloMosaic.Lib.Pipeline.Value
public import Idealize.ShloMosaic.Lib.Pipeline.ValueKit.Tiles

@[expose] public section

set_option maxRecDepth 16384

noncomputable section

namespace Cert.Taps

open Idealize.ShloMosaic Cert.KernelIdeal Cert.KernelIdeal.Gen Cert.Norm

/-- A channel of the 3 × 3 filtered image at a pixel, the middle row first. -/
def three (Y : Fin 32 → Fin 32 → EReal) (w : ℕ → EReal) (p : Fin 1024) : EReal :=
  narrow Y p 0 (w 3) (w 4) (w 5) + narrow Y p (-1) (w 0) (w 1) (w 2) + narrow Y p 1 (w 6) (w 7) (w 8)

/-- A channel of the 5 × 5 filtered image at a pixel, the middle row first. -/
def five (Y : Fin 32 → Fin 32 → EReal) (w : ℕ → EReal) (p : Fin 1024) : EReal :=
  wide Y p 0 (w 10) (w 11) (w 12) (w 13) (w 14) + wide Y p (-2) (w 0) (w 1) (w 2) (w 3) (w 4)
    + wide Y p (-1) (w 5) (w 6) (w 7) (w 8) (w 9) + wide Y p 1 (w 15) (w 16) (w 17) (w 18) (w 19)
    + wide Y p 2 (w 20) (w 21) (w 22) (w 23) (w 24)

/-- A channel of the image among the 1152 mixed ones. -/
def chan0 (c : Fin 384) : Fin 1152 := ⟨c.val, by omega⟩

/-- A channel of the 3 × 3 filtered copy among the 1152 mixed ones. -/
def chan1 (c : Fin 384) : Fin 1152 := ⟨384 + c.val, by omega⟩

/-- A channel of the 5 × 5 filtered copy among the 1152 mixed ones. -/
def chan2 (c : Fin 384) : Fin 1152 := ⟨768 + c.val, by omega⟩

/-- The mixed features of a pixel: the image, its two filtered copies, and a bias. -/
def features (Y : Fin 384 → Fin 32 → Fin 32 → EReal) (w3 w5 : Fin 384 → ℕ → EReal) (V : Fin 768 → Fin 1152 → EReal)
    (B : Fin 768 → EReal) (p : Fin 1024) (d : Fin 768) : EReal :=
  ∑ c : Fin 384, tap (Y c) p 0 0 * V d (chan0 c)
    + ∑ c : Fin 384, three (Y c) (w3 c) p * V d (chan1 c)
    + ∑ c : Fin 384, five (Y c) (w5 c) p * V d (chan2 c)
    + B d

section Block

variable (x0 : Vec Ideal S1x384x1024 .f32) (x1 : Vec Ideal S384x1152 .bf16) (x2 : Vec Ideal S384x3200 .bf16)
  (x3 : Vec Ideal S768x1152 .bf16) (x4 x5 x6 : Vec Ideal S1x768 .f32)
  (Y : Fin 384 → Fin 32 → Fin 32 → EReal) (w3 w5 : Fin 384 → ℕ → EReal)
  (hx : ∀ (c : Fin 384) (q : Fin 1024), x0 (ix3 0 c q) = Y c (rowOf q) (colOf q))
  (hw3 : ∀ (c : Fin 384) (q : Fin 1152), x1 (ix2 c q) = w3 c (q.val / 128))
  (hw5 : ∀ (c : Fin 384) (q : Fin 3200), x2 (ix2 c q) = w5 c (q.val / 128))

/-- The weights of one tap of the 3 × 3 filter, loaded. -/
theorem ld3 (n t : ℕ) (inb) (ht : n = 128 * t) (hw3 : ∀ (c : Fin 384) (q : Fin 1152), x1 (ix2 c q) = w3 c (q.val / 128))
    (c : Fin 384) (l : Fin 128) :
    View.ld x1 (Rect.unit (s := S384x1152) ![0, n] S384x128.size inb) (ix2 c l) = w3 c t := by
  have hn : n + 128 ≤ 1152 := inb 1
  refine Eq.trans (congrArg x1 (funext fun a => Fin.ext ?_)) ((hw3 c ⟨n + l.val, by omega⟩).trans (congrArg (w3 c) ?_))
  · rw [Rect.idx_unit_val]
    fin_cases a <;> simp
  · dsimp only
    omega

/-- The weights of one tap of the 5 × 5 filter, loaded. -/
theorem ld5 (n t : ℕ) (inb) (ht : n = 128 * t) (hw5 : ∀ (c : Fin 384) (q : Fin 3200), x2 (ix2 c q) = w5 c (q.val / 128))
    (c : Fin 384) (l : Fin 128) :
    View.ld x2 (Rect.unit (s := S384x3200) ![0, n] S384x128.size inb) (ix2 c l) = w5 c t := by
  have hn : n + 128 ≤ 3200 := inb 1
  refine Eq.trans (congrArg x2 (funext fun a => Fin.ext ?_)) ((hw5 c ⟨n + l.val, by omega⟩).trans (congrArg (w5 c) ?_))
  · rw [Rect.idx_unit_val]
    fin_cases a <;> simp
  · dsimp only
    omega

include hx hw3

/-- The part of the product over the image itself and its 3 × 3 filtered copy. -/
theorem pay33_eq (p : Fin 1024) (d : Fin 768) :
    k0_pay33 x0 x1 x2 x3 x4 x5 x6 (ix2 p d)
      = ∑ c : Fin 384, tap (Y c) p 0 0 * x3 (ix2 d (chan0 c))
        + ∑ c : Fin 384, three (Y c) (w3 c) p * x3 (ix2 d (chan1 c)) := by
  have e0 : View.ld x0 r0_0 = x0 := View.ld_unit_zero (funext fun a => by fin_cases a <;> rfl) _ _
  have h5 := pay3_apply x0 Y hx
  have h37 := pay5_apply x0 Y hx
  have h53 := pay6_apply x0 Y hx
  unfold k0_pay33 k0_pay26 k0_pay31 k0_pay28 k0_pay30 k0_pay27
  rw [e0]
  rw [pay12_apply (k0_pay3 x0) (k0_pay5 x0) (k0_pay6 k0_pay2 (k0_pay3 x0) 1#32) Y h5 h37 h53
    (View.ld x1 r0_8) (View.ld x1 r0_9) (View.ld x1 r0_10) (fun c => w3 c 6) (fun c => w3 c 7) (fun c => w3 c 8)
    (ld3 x1 w3 768 6 _ rfl hw3) (ld3 x1 w3 896 7 _ rfl hw3) (ld3 x1 w3 1024 8 _ rfl hw3)]
  rw [pay8_apply]
  refine congrArg₂ (· + ·) (Finset.sum_congr rfl fun c _ => ?_) (Finset.sum_congr rfl fun c _ => ?_)
  · rw [h5]
    refine congrArg₂ (· * ·) rfl ?_
    pointwise
    rfl
  · rw [pay10_apply _ _ _ Y h5 h37 h53 (View.ld x1 r0_2) (View.ld x1 r0_3) (View.ld x1 r0_4) (fun c => w3 c 3)
        (fun c => w3 c 4) (fun c => w3 c 5)
        (ld3 x1 w3 384 3 _ rfl hw3) (ld3 x1 w3 512 4 _ rfl hw3) (ld3 x1 w3 640 5 _ rfl hw3),
      pay11_apply _ _ _ Y h5 h37 h53 (View.ld x1 r0_5) (View.ld x1 r0_6) (View.ld x1 r0_7) (fun c => w3 c 0)
        (fun c => w3 c 1) (fun c => w3 c 2)
        (ld3 x1 w3 0 0 _ rfl hw3) (ld3 x1 w3 128 1 _ rfl hw3) (ld3 x1 w3 256 2 _ rfl hw3)]
    refine congrArg₂ (· * ·) rfl ?_
    pointwise
    rfl

omit hw3
include hw5

/-- A channel of the 5 × 5 filtered copy but for its lowest row. -/
theorem pay34_eq (c : Fin 384) (p : Fin 1024) :
    k0_pay34 x0 x1 x2 x3 x4 x5 x6 (ix2 c p)
      = wide (Y c) p 0 (w5 c 10) (w5 c 11) (w5 c 12) (w5 c 13) (w5 c 14)
        + wide (Y c) p (-2) (w5 c 0) (w5 c 1) (w5 c 2) (w5 c 3) (w5 c 4)
        + wide (Y c) p (-1) (w5 c 5) (w5 c 6) (w5 c 7) (w5 c 8) (w5 c 9)
        + wide (Y c) p 1 (w5 c 15) (w5 c 16) (w5 c 17) (w5 c 18) (w5 c 19) := by
  have e0 : View.ld x0 r0_0 = x0 := View.ld_unit_zero (funext fun a => by fin_cases a <;> rfl) _ _
  have h5 := pay3_apply x0 Y hx
  have h21 := pay4_apply x0 Y hx
  have h37 := pay5_apply x0 Y hx
  have h53 := pay6_apply x0 Y hx
  have h69 := pay7_apply x0 Y hx
  unfold k0_pay34 k0_pay26 k0_pay31 k0_pay32 k0_pay28 k0_pay29 k0_pay30 k0_pay27
  rw [e0]
  rw [pay21_apply _ _ _ _ _ Y h5 h21 h37 h53 h69 _
      (View.ld x2 r0_27) (View.ld x2 r0_28) (View.ld x2 r0_29) (View.ld x2 r0_30) (View.ld x2 r0_31)
      (fun c => w5 c 15) (fun c => w5 c 16) (fun c => w5 c 17) (fun c => w5 c 18) (fun c => w5 c 19)
      (ld5 x2 w5 1920 15 _ rfl hw5) (ld5 x2 w5 2048 16 _ rfl hw5) (ld5 x2 w5 2176 17 _ rfl hw5) (ld5 x2 w5 2304 18 _ rfl hw5) (ld5 x2 w5 2432 19 _ rfl hw5),
    pay18_apply _ _ _ _ _ Y h5 h21 h37 h53 h69 _
      (View.ld x2 r0_22) (View.ld x2 r0_23) (View.ld x2 r0_24) (View.ld x2 r0_25) (View.ld x2 r0_26)
      (fun c => w5 c 5) (fun c => w5 c 6) (fun c => w5 c 7) (fun c => w5 c 8) (fun c => w5 c 9)
      (ld5 x2 w5 640 5 _ rfl hw5) (ld5 x2 w5 768 6 _ rfl hw5) (ld5 x2 w5 896 7 _ rfl hw5) (ld5 x2 w5 1024 8 _ rfl hw5) (ld5 x2 w5 1152 9 _ rfl hw5),
    pay16_apply _ _ _ _ _ Y h5 h21 h37 h53 h69 _
      (View.ld x2 r0_17) (View.ld x2 r0_18) (View.ld x2 r0_19) (View.ld x2 r0_20) (View.ld x2 r0_21)
      (fun c => w5 c 0) (fun c => w5 c 1) (fun c => w5 c 2) (fun c => w5 c 3) (fun c => w5 c 4)
      (ld5 x2 w5 0 0 _ rfl hw5) (ld5 x2 w5 128 1 _ rfl hw5) (ld5 x2 w5 256 2 _ rfl hw5) (ld5 x2 w5 384 3 _ rfl hw5) (ld5 x2 w5 512 4 _ rfl hw5),
    pay14_apply _ _ _ _ _ Y h5 h21 h37 h53 h69
      (View.ld x2 r0_12) (View.ld x2 r0_13) (View.ld x2 r0_14) (View.ld x2 r0_15) (View.ld x2 r0_16)
      (fun c => w5 c 10) (fun c => w5 c 11) (fun c => w5 c 12) (fun c => w5 c 13) (fun c => w5 c 14)
      (ld5 x2 w5 1280 10 _ rfl hw5) (ld5 x2 w5 1408 11 _ rfl hw5) (ld5 x2 w5 1536 12 _ rfl hw5) (ld5 x2 w5 1664 13 _ rfl hw5) (ld5 x2 w5 1792 14 _ rfl hw5)]

include hw3

/-- The features of a pixel less their mean. -/
theorem pay24_eq (p : Fin 1024) (d : Fin 768) :
    k0_pay24 (k0_pay26 x0 x1 x2 x3 x4 x5 x6) (k0_pay31 x0 x1 x2 x3 x4 x5 x6) (k0_pay32 x0 x1 x2 x3 x4 x5 x6)
        (k0_pay33 x0 x1 x2 x3 x4 x5 x6) (k0_pay34 x0 x1 x2 x3 x4 x5 x6) (k0_pay35 x0 x1 x2 x3 x4 x5 x6)
        (k0_pay36 x0 x1 x2 x3 x4 x5 x6) (View.ld x2 r0_36) (View.ld x3 r0_37) (View.ld x4 r0_38) (ix2 p d)
      = features Y w3 w5 (fun d k => x3 (ix2 d k)) (fun d => x4 (ix2 0 d)) p d
        - mean (features Y w3 w5 (fun d k => x3 (ix2 d k)) (fun d => x4 (ix2 0 d)) p) := by
  have e0 : View.ld x0 r0_0 = x0 := View.ld_unit_zero (funext fun a => by fin_cases a <;> rfl) _ _
  have h5 := pay3_apply x0 Y hx
  have h21 := pay4_apply x0 Y hx
  have h37 := pay5_apply x0 Y hx
  have h53 := pay6_apply x0 Y hx
  have h69 := pay7_apply x0 Y hx
  have hm : ∀ e : Fin 768, mixed (k0_pay33 x0 x1 x2 x3 x4 x5 x6) (fun c => five (Y c) (w5 c)) (View.ld x3 r0_37)
      (View.ld x4 r0_38) p e = features Y w3 w5 (fun d k => x3 (ix2 d k)) (fun d => x4 (ix2 0 d)) p e := by
    intro e
    unfold mixed features
    rw [pay33_eq x0 x1 x2 x3 x4 x5 x6 Y w3 hx hw3]
    refine congrArg₂ (· + ·) (congrArg₂ (· + ·) rfl (Finset.sum_congr rfl fun c _ => congrArg₂ (· * ·) rfl ?_)) ?_
    · pointwise
      rfl
    · pointwise
  unfold k0_pay35 k0_pay36 k0_pay26 k0_pay31 k0_pay32 k0_pay28 k0_pay29 k0_pay30 k0_pay27
  rw [e0]
  rw [pay24_apply _ _ _ _ _ Y h5 h21 h37 h53 h69 (k0_pay34 x0 x1 x2 x3 x4 x5 x6)
      (View.ld x2 r0_32) (View.ld x2 r0_33) (View.ld x2 r0_34) (View.ld x2 r0_35) (View.ld x2 r0_36)
      (fun c => w5 c 20) (fun c => w5 c 21) (fun c => w5 c 22) (fun c => w5 c 23) (fun c => w5 c 24)
      (ld5 x2 w5 2560 20 _ rfl hw5) (ld5 x2 w5 2688 21 _ rfl hw5) (ld5 x2 w5 2816 22 _ rfl hw5) (ld5 x2 w5 2944 23 _ rfl hw5) (ld5 x2 w5 3072 24 _ rfl hw5) _ _ _ (fun c => five (Y c) (w5 c))
      (fun c p => by rw [pay34_eq x0 x1 x2 x3 x4 x5 x6 Y w5 hx hw5]; rfl)]
  rw [hm]
  simp only [hm]
  rfl

/-- What the body leaves in the output block: the GELU of the layer norm of the features. -/
theorem block_apply (p : Fin 1024) (d : Fin 768) :
    out0_7 x0 x1 x2 x3 x4 x5 x6 (ix3 0 p d)
      = gelu (normed (features Y w3 w5 (fun d k => x3 (ix2 d k)) (fun d => x4 (ix2 0 d)) p) (fun d => x5 (ix2 0 d))
          (fun d => x6 (ix2 0 d)) d) := by
  have key : ∀ (A : FVec Ideal S1024x768 .f32) (G : Fin 768 → EReal) (g b : Vec Ideal S1x768 .f32),
      (∀ e, A (ix2 p e) = G e - mean G) →
      k0_pay1 A (mulf A A) g b (ix3 0 p d) = gelu (normed G (fun d => g (ix2 0 d)) (fun d => b (ix2 0 d)) d) := by
    intro A G g b hA
    unfold k0_pay1
    pointwise
    simp only [hA]
    rfl
  have e5 : View.ld x5 r0_38 = x5 := View.ld_unit_zero (funext fun a => by fin_cases a <;> rfl) _ _
  have e6 : View.ld x6 r0_38 = x6 := View.ld_unit_zero (funext fun a => by fin_cases a <;> rfl) _ _
  unfold out0_7
  rw [View.canon_cons_unit_zero (funext fun a => by fin_cases a <;> rfl), e5, e6]
  exact key _ _ _ _ fun e => pay24_eq x0 x1 x2 x3 x4 x5 x6 Y w3 w5 hx hw3 hw5 p e

end Block

end Cert.Taps
-- ==== Proof.Host.lean ====
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Taps

open Idealize.ShloMosaic Idealize.ShloMosaic.TcCoe Cert.KernelIdeal Cert.KernelIdeal.Gen Cert.Norm

variable (m : (ℓ : Loc nD τ sig) → Buf (Elt Ideal) ℓ) (c : Dev nD)

/-- The block that a grid point takes of array 0. -/
theorem idx0 : ∀ (t : Fin cfg0.N) (a : Fin 3), win0_0.index t a = ![t.val, 0, 0] a :=
  (by decide +kernel : ∀ (t : Fin grid0.N) (a : Fin 3), win0_0.index t a = ![t.val, 0, 0] a)

/-- The image block of a grid point is the image of that number. -/
theorem blk0 (t : Fin cfg0.N) (ch : Fin 384) (q : Fin 1024) :
    iblk m c 0 t (ix3 0 ch q) = m ((c : Thread nD τ).loc main_arg0) (ix4 t ch (rowOf q) (colOf q)) := by
  have h : rowOf q = ⟨q.val / 32, by omega⟩ := rfl
  have h' : colOf q = ⟨q.val % 32, by omega⟩ := rfl
  rw [h, h']
  blk_ext! [iblk, V, idx0 t]

/-- The block that a grid point takes of array 1. -/
theorem idx1 : ∀ (t : Fin cfg0.N) (a : Fin 2), win0_1.index t a = ![0, 0] a :=
  (by decide +kernel : ∀ (t : Fin grid0.N) (a : Fin 2), win0_1.index t a = ![0, 0] a)
/-- The block that a grid point takes of array 2. -/
theorem idx2 : ∀ (t : Fin cfg0.N) (a : Fin 2), win0_2.index t a = ![0, 0] a :=
  (by decide +kernel : ∀ (t : Fin grid0.N) (a : Fin 2), win0_2.index t a = ![0, 0] a)
/-- The block that a grid point takes of array 3. -/
theorem idx3 : ∀ (t : Fin cfg0.N) (a : Fin 2), win0_3.index t a = ![0, 0] a :=
  (by decide +kernel : ∀ (t : Fin grid0.N) (a : Fin 2), win0_3.index t a = ![0, 0] a)
/-- The block that a grid point takes of array 4. -/
theorem idx4 : ∀ (t : Fin cfg0.N) (a : Fin 2), win0_4.index t a = ![0, 0] a :=
  (by decide +kernel : ∀ (t : Fin grid0.N) (a : Fin 2), win0_4.index t a = ![0, 0] a)
/-- The block that a grid point takes of array 5. -/
theorem idx5 : ∀ (t : Fin cfg0.N) (a : Fin 2), win0_5.index t a = ![0, 0] a :=
  (by decide +kernel : ∀ (t : Fin grid0.N) (a : Fin 2), win0_5.index t a = ![0, 0] a)
/-- The block that a grid point takes of array 6. -/
theorem idx6 : ∀ (t : Fin cfg0.N) (a : Fin 2), win0_6.index t a = ![0, 0] a :=
  (by decide +kernel : ∀ (t : Fin grid0.N) (a : Fin 2), win0_6.index t a = ![0, 0] a)
/-- The block that a grid point takes of array 7. -/
theorem idx7 : ∀ (t : Fin cfg0.N) (a : Fin 3), win0_7.index t a = ![t.val, 0, 0] a :=
  (by decide +kernel : ∀ (t : Fin grid0.N) (a : Fin 3), win0_7.index t a = ![t.val, 0, 0] a)

/-- The scale's block. -/
theorem blk5 (t : Fin cfg0.N) (d : Fin 768) :
    iblk m c 5 t (ix2 0 d) = m ((c : Thread nD τ).loc main_arg7) (ix1 d) := by
  blk_ext! [iblk, V, idx5 t]

/-- The shift's block. -/
theorem blk6 (t : Fin cfg0.N) (d : Fin 768) :
    iblk m c 6 t (ix2 0 d) = m ((c : Thread nD τ).loc main_arg8) (ix1 d) := by
  blk_ext! [iblk, V, idx6 t]

/-- The mixing matrix's block. -/
theorem blk3 (t : Fin cfg0.N) (d : Fin 768) (k : Fin 1152) :
    iblk m c 3 t (ix2 d k) = m ((c : Thread nD τ).loc main_arg5) (ix2 d k) := by
  have he : (win0_3.blk t).view.emb (ix2 d k) = ix2 d k := by
    funext a
    apply Fin.ext
    blk_simp [idx3 t]
    fin_cases a <;> simp
  show V m c main_v9 ((win0_3.blk t).view.emb (ix2 d k)) = _
  rw [he]
  entry_read
  pointwise

/-- The taps of the 3 × 3 filters, numbered row by row. -/
def taps3 (w : Vec Ideal S384x1x3x3 .f32) (ch : Fin 384) (n : ℕ) : EReal :=
  w (ix4 ch 0 ⟨n / 3 % 3, by omega⟩ ⟨n % 3, by omega⟩)

/-- The taps of the 5 × 5 filters, numbered row by row. -/
def taps5 (w : Vec Ideal S384x1x5x5 .f32) (ch : Fin 384) (n : ℕ) : EReal :=
  w (ix4 ch 0 ⟨n / 5 % 5, by omega⟩ ⟨n % 5, by omega⟩)

/-- The block of the 3 × 3 filters: each tap repeated over 128 lanes. -/
theorem blk1 (t : Fin cfg0.N) (ch : Fin 384) (q : Fin 1152) :
    iblk m c 1 t (ix2 ch q) = taps3 (m ((c : Thread nD τ).loc main_arg1)) ch (q.val / 128) := by
  have he : (win0_1.blk t).view.emb (ix2 ch q) = ix2 ch q := by
    funext a
    apply Fin.ext
    blk_simp [idx1 t]
    fin_cases a <;> simp
  show V m c main_v4 ((win0_1.blk t).view.emb (ix2 ch q)) = _
  rw [he]
  entry_read
  unfold taps3
  pointwise
  exact congrArg (fun r : Fin 3 => m ((c : Thread nD τ).loc main_arg1) (ix4 ch 0 r ⟨q.val / 128 % 3, by omega⟩))
    (Fin.ext (by dsimp only; omega))

/-- The block of the 5 × 5 filters: each tap repeated over 128 lanes. -/
theorem blk2 (t : Fin cfg0.N) (ch : Fin 384) (q : Fin 3200) :
    iblk m c 2 t (ix2 ch q) = taps5 (m ((c : Thread nD τ).loc main_arg3)) ch (q.val / 128) := by
  have he : (win0_2.blk t).view.emb (ix2 ch q) = ix2 ch q := by
    funext a
    apply Fin.ext
    blk_simp [idx2 t]
    fin_cases a <;> simp
  show V m c main_v8 ((win0_2.blk t).view.emb (ix2 ch q)) = _
  rw [he]
  entry_read
  unfold taps5
  pointwise
  exact congrArg (fun r : Fin 5 => m ((c : Thread nD τ).loc main_arg3) (ix4 ch 0 r ⟨q.val / 128 % 5, by omega⟩))
    (Fin.ext (by dsimp only; omega))

/-- The folded bias: the mixing's own and both filters' biases mixed. -/
def bias (b3 b5 : Fin 384 → EReal) (V : Fin 768 → Fin 1152 → EReal) (bp : Fin 768 → EReal) (d : Fin 768) : EReal :=
  bp d + ∑ c : Fin 384, V d (chan1 c) * b3 c + ∑ c : Fin 384, V d (chan2 c) * b5 c

/-- The bias's block. -/
theorem blk4 (t : Fin cfg0.N) (d : Fin 768) :
    iblk m c 4 t (ix2 0 d) = bias (fun k => m ((c : Thread nD τ).loc main_arg2) (ix1 k))
      (fun k => m ((c : Thread nD τ).loc main_arg4) (ix1 k)) (fun d k => m ((c : Thread nD τ).loc main_arg5) (ix2 d k))
      (fun d => m ((c : Thread nD τ).loc main_arg6) (ix1 d)) d := by
  have he : (win0_4.blk t).view.emb (ix2 0 d) = ix2 0 d := by
    funext a
    apply Fin.ext
    blk_simp [idx4 t]
    fin_cases a <;> simp
  show V m c main_v16 ((win0_4.blk t).view.emb (ix2 0 d)) = _
  rw [he]
  entry_read
  unfold bias
  pointwise
  rfl

/-- The result at a batch, a pixel and a feature, in the launched arguments. -/
def result (p : Fin 1024) (t : Fin 32) (d : Fin 768) : EReal :=
  gelu (normed (features (fun ch i j => m ((c : Thread nD τ).loc main_arg0) (ix4 t ch i j))
      (taps3 (m ((c : Thread nD τ).loc main_arg1))) (taps5 (m ((c : Thread nD τ).loc main_arg3)))
      (fun d k => m ((c : Thread nD τ).loc main_arg5) (ix2 d k))
      (bias (fun k => m ((c : Thread nD τ).loc main_arg2) (ix1 k)) (fun k => m ((c : Thread nD τ).loc main_arg4) (ix1 k))
        (fun d k => m ((c : Thread nD τ).loc main_arg5) (ix2 d k)) (fun d => m ((c : Thread nD τ).loc main_arg6) (ix1 d))) p)
    (fun d => m ((c : Thread nD τ).loc main_arg7) (ix1 d)) (fun d => m ((c : Thread nD τ).loc main_arg8) (ix1 d)) d)

/-- The result array in the launched arguments. -/
def val : Buf (Elt Ideal) ((c : Thread nD τ).loc main_v19) := fun i : S32x1024x768.Idx => result m c (i 1) (i 0) (i 2)

/-- What a grid point writes back is its block of the result array. -/
theorem flushed_eq (t : Fin cfg0.N) :
    (dats m 0 c).flushed 7 t = (win0_7.blk t).view.read (Elt Ideal) (val m c) := by
  rw [Cert.KernelIdeal.Value.flushed7]
  funext j
  change out0_7 _ _ _ _ _ _ _ j = val m c ((win0_7.blk t).view.emb j)
  obtain ⟨p, d, rfl⟩ : ∃ (p : Fin 1024) (d : Fin 768), j = (ix3 0 p d : S1x1024x768.Idx) :=
    ⟨j 1, j 2, funext fun a => by
      fin_cases a
      · exact Subsingleton.elim (α := Fin 1) _ _
      · rfl
      · rfl⟩
  have he : (win0_7.blk t).view.emb (ix3 0 p d : S1x1024x768.Idx) = (ix3 t p d : S32x1024x768.Idx) := by
    funext a
    apply Fin.ext
    blk_simp [idx7 t]
    fin_cases a <;> simp
  rw [he]
  refine (block_apply _ _ _ _ _ _ _ (fun ch i j => m ((c : Thread nD τ).loc main_arg0) (ix4 t ch i j))
    (taps3 (m ((c : Thread nD τ).loc main_arg1))) (taps5 (m ((c : Thread nD τ).loc main_arg3)))
    (blk0 m c t) (blk1 m c t) (blk2 m c t) p d).trans ?_
  simp only [blk3 m c t, blk4 m c t, blk5 m c t, blk6 m c t]
  rfl

/-- A grid point writes back every index of its own batch. -/
theorem mem_blk (t : Fin cfg0.N) (i : S32x1024x768.Idx) (h : (i 0 : ℕ) = t.val) :
    i ∈ ((cfg0.win 7).blk t).view.set := by
  show i ∈ ((View.whole main_v19).slice (win0_7.rect t)).set
  rw [View.set_slice_whole, Rect.mem_set_unit]
  have e : ∀ a : Fin 3, win0_7.index t a * win0_7.size a ≤ (i a : ℕ)
      ∧ (i a : ℕ) < win0_7.index t a * win0_7.size a + win0_7.xsize (grid0.coords t) a := by
    intro a
    rw [idx7 t a]
    have h1 := (i 1).isLt
    have h2 := (i 2).isLt
    fin_cases a
    · show t.val * 1 ≤ (i 0 : ℕ) ∧ (i 0 : ℕ) < t.val * 1 + 1
      omega
    · show 0 * 1024 ≤ (i 1 : ℕ) ∧ (i 1 : ℕ) < 0 * 1024 + 1024
      exact ⟨by omega, h1⟩
    · show 0 * 768 ≤ (i 2 : ℕ) ∧ (i 2 : ℕ) < 0 * 768 + 768
      exact ⟨by omega, h2⟩
  exact e

/-- Every index of the result array is written back by the grid point of its batch. -/
theorem cover (i : S32x1024x768.Idx) :
    ∃ t : Fin cfg0.N, (cfg0.win 7).flush t = true ∧ i ∈ ((cfg0.win 7).blk t).view.set :=
  ⟨⟨(i 0).val, (i 0).isLt⟩, flush0_7 _, mem_blk _ i rfl⟩

/-- The result array when the kernel ends. -/
theorem final (c : Dev nD) : (dats m 0 c).arrAt 7 cfg0.N = val m c :=
  (dats m 0 c).arrAt_eq_of_cover 7 (val m c) (fun t _ => flushed_eq m c t) cover

end Cert.Taps
-- ==== Proof.Ref.lean ====
module

public import proofs.«01_k».proof.Proof.Host
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.RefTaps

open Idealize.ShloMosaic Idealize.ShloMosaic.StableHlo Cert.ReferenceIdeal Cert.ReferenceIdeal.Gen Cert.ReferenceIdeal.Value Cert.Norm Cert.Taps

variable (V0 : Valuation τ sig (Elt Ideal))

/-- The images. -/
abbrev A0 : S32x384x32x32.Idx → EReal := V0 (Proc.devRef .tc main_arg0)
/-- The 3 × 3 filters. -/
abbrev A1 : S384x1x3x3.Idx → EReal := V0 (Proc.devRef .tc main_arg1)
/-- The 3 × 3 filters' biases. -/
abbrev A2 : S384.Idx → EReal := V0 (Proc.devRef .tc main_arg2)
/-- The 5 × 5 filters. -/
abbrev A3 : S384x1x5x5.Idx → EReal := V0 (Proc.devRef .tc main_arg3)
/-- The 5 × 5 filters' biases. -/
abbrev A4 : S384.Idx → EReal := V0 (Proc.devRef .tc main_arg4)
/-- The mixing matrix. -/
abbrev A5 : S768x1152.Idx → EReal := V0 (Proc.devRef .tc main_arg5)
/-- The mixing biases. -/
abbrev A6 : S768.Idx → EReal := V0 (Proc.devRef .tc main_arg6)
/-- The normalisation's scales. -/
abbrev A7 : S768.Idx → EReal := V0 (Proc.devRef .tc main_arg7)
/-- The normalisation's shifts. -/
abbrev A8 : S768.Idx → EReal := V0 (Proc.devRef .tc main_arg8)

/-- One channel of one image of the batch. -/
abbrev img (b : Fin 32) (c : Fin 384) : Fin 32 → Fin 32 → EReal := fun i j => A0 V0 (ix4 b c i j)

/-- The padded image, by name. -/
abbrev P1 : S32x384x34x34.Idx → EReal := res_main_v0 V0
/-- The image padded by two, by name. -/
abbrev P2 : S32x384x36x36.Idx → EReal := res_main_v66 V0

/-- The padding value is zero. -/
theorem padValue : (FloatOps.sitofp FTy.f32 (0#32 : BitVec 32) : Ideal .f32) = (0 : EReal) := by
  show ((((0#32 : BitVec 32).toInt : ℤ) : ℝ) : EReal) = 0
  simp

/-- The image padded by one, at a pixel's neighbour. -/
theorem pad1_tap (b : Fin 32) (c : Fin 384) (p : Fin 1024) (u v : Fin 34) (i j : ℤ)
    (hu : (u.val : ℤ) = ((p.val / 32 : ℕ) : ℤ) + i + 1) (hv : (v.val : ℤ) = ((p.val % 32 : ℕ) : ℤ) + j + 1) :
    P1 V0 (ix4 b c u v) = tap (img V0 b c) p i j := by
  unfold P1 res_main_v0
  clean_types
  pointwise
  unfold tap
  split
  · refine (pix_in (img V0 b c) _ _ _ _ ?_ ?_).symm <;> dsimp only <;> omega
  · rename_i h
    rw [padValue]
    by_cases hi : 0 ≤ ((p.val / 32 : ℕ) : ℤ) + i ∧ ((p.val / 32 : ℕ) : ℤ) + i < 32
    · exact (pix_col _ _ _ (by omega)).symm
    · exact (pix_row _ _ _ hi).symm

/-- The image padded by two, at a pixel's neighbour. -/
theorem pad2_tap (b : Fin 32) (c : Fin 384) (p : Fin 1024) (u v : Fin 36) (i j : ℤ)
    (hu : (u.val : ℤ) = ((p.val / 32 : ℕ) : ℤ) + i + 2) (hv : (v.val : ℤ) = ((p.val % 32 : ℕ) : ℤ) + j + 2) :
    P2 V0 (ix4 b c u v) = tap (img V0 b c) p i j := by
  unfold P2 res_main_v66
  clean_types
  pointwise
  unfold tap
  split
  · refine (pix_in (img V0 b c) _ _ _ _ ?_ ?_).symm <;> dsimp only <;> omega
  · rename_i h
    rw [padValue]
    by_cases hi : 0 ≤ ((p.val / 32 : ℕ) : ℤ) + i ∧ ((p.val / 32 : ℕ) : ℤ) + i < 32
    · exact (pix_col _ _ _ (by omega)).symm
    · exact (pix_row _ _ _ hi).symm

section Reads

variable (b : Fin 32) (c : Fin 384) (p : Fin 1024) (n k : ℕ)

/-- The image padded by one, read at the pixel's own corner. -/
theorem pad1_00 (hn) (hk) : res_main_v0 V0 (ix4 b c ⟨(rowOf p).val, hn⟩ ⟨(colOf p).val, hk⟩) = tap (img V0 b c) p (-1) (-1) :=
  pad1_tap V0 b c p _ _ _ _ (by simp [rowOf]) (by simp [colOf])
/-- The image padded by one, read `k` columns on. -/
theorem pad1_01 (hn) (hk) : res_main_v0 V0 (ix4 b c ⟨(rowOf p).val, hn⟩ ⟨k + (colOf p).val, hk⟩) = tap (img V0 b c) p (-1) ((k : ℤ) - 1) :=
  pad1_tap V0 b c p _ _ _ _ (by simp [rowOf]) (by simp [colOf]; ring)
/-- The image padded by one, read `n` rows on. -/
theorem pad1_10 (hn) (hk) : res_main_v0 V0 (ix4 b c ⟨n + (rowOf p).val, hn⟩ ⟨(colOf p).val, hk⟩) = tap (img V0 b c) p ((n : ℤ) - 1) (-1) :=
  pad1_tap V0 b c p _ _ _ _ (by simp [rowOf]; ring) (by simp [colOf])
/-- The image padded by one, read `n` rows and `k` columns on. -/
theorem pad1_11 (hn) (hk) : res_main_v0 V0 (ix4 b c ⟨n + (rowOf p).val, hn⟩ ⟨k + (colOf p).val, hk⟩) = tap (img V0 b c) p ((n : ℤ) - 1) ((k : ℤ) - 1) :=
  pad1_tap V0 b c p _ _ _ _ (by simp [rowOf]; ring) (by simp [colOf]; ring)

/-- The image padded by two, read at the pixel's own corner. -/
theorem pad2_00 (hn) (hk) : res_main_v66 V0 (ix4 b c ⟨(rowOf p).val, hn⟩ ⟨(colOf p).val, hk⟩) = tap (img V0 b c) p (-2) (-2) :=
  pad2_tap V0 b c p _ _ _ _ (by simp [rowOf]) (by simp [colOf])
/-- The image padded by two, read `k` columns on. -/
theorem pad2_01 (hn) (hk) : res_main_v66 V0 (ix4 b c ⟨(rowOf p).val, hn⟩ ⟨k + (colOf p).val, hk⟩) = tap (img V0 b c) p (-2) ((k : ℤ) - 2) :=
  pad2_tap V0 b c p _ _ _ _ (by simp [rowOf]) (by simp [colOf]; ring)
/-- The image padded by two, read `n` rows on. -/
theorem pad2_10 (hn) (hk) : res_main_v66 V0 (ix4 b c ⟨n + (rowOf p).val, hn⟩ ⟨(colOf p).val, hk⟩) = tap (img V0 b c) p ((n : ℤ) - 2) (-2) :=
  pad2_tap V0 b c p _ _ _ _ (by simp [rowOf]; ring) (by simp [colOf])
/-- The image padded by two, read `n` rows and `k` columns on. -/
theorem pad2_11 (hn) (hk) : res_main_v66 V0 (ix4 b c ⟨n + (rowOf p).val, hn⟩ ⟨k + (colOf p).val, hk⟩) = tap (img V0 b c) p ((n : ℤ) - 2) ((k : ℤ) - 2) :=
  pad2_tap V0 b c p _ _ _ _ (by simp [rowOf]; ring) (by simp [colOf]; ring)

end Reads

/-- The 3 × 3 filter's taps row by row add up to the filtered pixel. -/
theorem three_rows (Y : Fin 32 → Fin 32 → EReal) (w : ℕ → EReal) (p : Fin 1024) :
    tap Y p (-1) (-1) * w 0 + tap Y p (-1) (0) * w 1 + tap Y p (-1) (1) * w 2 + tap Y p (0) (-1) * w 3
      + tap Y p (0) (0) * w 4 + tap Y p (0) (1) * w 5 + tap Y p (1) (-1) * w 6
      + tap Y p (1) (0) * w 7 + tap Y p (1) (1) * w 8
      = three Y w p := by
  unfold three narrow
  abel

/-- The 5 × 5 filter's taps row by row add up to the filtered pixel. -/
theorem five_rows (Y : Fin 32 → Fin 32 → EReal) (w : ℕ → EReal) (p : Fin 1024) :
    tap Y p (-2) (-2) * w 0 + tap Y p (-2) (-1) * w 1 + tap Y p (-2) (0) * w 2
      + tap Y p (-2) (1) * w 3 + tap Y p (-2) (2) * w 4 + tap Y p (-1) (-2) * w 5
      + tap Y p (-1) (-1) * w 6 + tap Y p (-1) (0) * w 7 + tap Y p (-1) (1) * w 8
      + tap Y p (-1) (2) * w 9 + tap Y p (0) (-2) * w 10 + tap Y p (0) (-1) * w 11
      + tap Y p (0) (0) * w 12 + tap Y p (0) (1) * w 13 + tap Y p (0) (2) * w 14
      + tap Y p (1) (-2) * w 15 + tap Y p (1) (-1) * w 16 + tap Y p (1) (0) * w 17
      + tap Y p (1) (1) * w 18 + tap Y p (1) (2) * w 19 + tap Y p (2) (-2) * w 20
      + tap Y p (2) (-1) * w 21 + tap Y p (2) (0) * w 22 + tap Y p (2) (1) * w 23
      + tap Y p (2) (2) * w 24
      = five Y w p := by
  unfold five wide
  abel

/-- The concatenated features: the image itself comes first. -/
theorem cat0 (b : Fin 32) (c : Fin 384) (p : Fin 1024) :
    res_main_v244 V0 (ix4 b (chan0 c) (rowOf p) (colOf p)) = tap (img V0 b c) p 0 0 := by
  unfold res_main_v244
  clean_types
  pointwise
  rw [dif_pos (show (chan0 c).val < 384 from c.isLt)]
  unfold tap
  exact (pix_in (img V0 b c) _ _ (rowOf p) (colOf p) (by simp [rowOf]) (by simp [colOf])).symm

/-- The concatenated features: the 3 × 3 filtered image and its bias come second. -/
theorem cat1 (b : Fin 32) (c : Fin 384) (p : Fin 1024) :
    res_main_v244 V0 (ix4 b (chan1 c) (rowOf p) (colOf p))
      = (three (img V0 b c) (taps3 (A1 V0) c) p + A2 V0 (ix1 c) : EReal) := by
  unfold res_main_v244
  clean_types
  pointwise
  have hc : (chan1 c).val = 384 + c.val := rfl
  have e : ∀ h, (⟨(chan1 c).val - 384, h⟩ : Fin 384) = c := fun h => Fin.ext (by dsimp only; omega)
  rw [dif_neg (by omega), dif_pos (by omega)]
  simp only [e, pad1_00, pad1_01, pad1_10, pad1_11]
  exact congrArg (fun z : EReal => z + A2 V0 (ix1 c)) (three_rows (img V0 b c) (taps3 (A1 V0) c) p)

/-- The 5 × 5 filter's first ten taps. -/
theorem first_taps (b : Fin 32) (c : Fin 384) (p : Fin 1024) :
    res_main_v135 V0 (ix4 b c (rowOf p) (colOf p)) =
    (tap (img V0 b c) p (-2) (-2) * (taps5 (A3 V0) c) 0
      + tap (img V0 b c) p (-2) (-1) * (taps5 (A3 V0) c) 1
      + tap (img V0 b c) p (-2) (0) * (taps5 (A3 V0) c) 2
      + tap (img V0 b c) p (-2) (1) * (taps5 (A3 V0) c) 3
      + tap (img V0 b c) p (-2) (2) * (taps5 (A3 V0) c) 4
      + tap (img V0 b c) p (-1) (-2) * (taps5 (A3 V0) c) 5
      + tap (img V0 b c) p (-1) (-1) * (taps5 (A3 V0) c) 6
      + tap (img V0 b c) p (-1) (0) * (taps5 (A3 V0) c) 7
      + tap (img V0 b c) p (-1) (1) * (taps5 (A3 V0) c) 8
      + tap (img V0 b c) p (-1) (2) * (taps5 (A3 V0) c) 9 : EReal) := by
  unfold res_main_v135
  clean_types
  pointwise
  simp only [pad2_00, pad2_01, pad2_10, pad2_11]
  rfl

/-- The 5 × 5 filter's first twenty taps. -/
theorem more_taps (b : Fin 32) (c : Fin 384) (p : Fin 1024) :
    res_main_v205 V0 (ix4 b c (rowOf p) (colOf p)) =
    (tap (img V0 b c) p (-2) (-2) * (taps5 (A3 V0) c) 0
      + tap (img V0 b c) p (-2) (-1) * (taps5 (A3 V0) c) 1
      + tap (img V0 b c) p (-2) (0) * (taps5 (A3 V0) c) 2
      + tap (img V0 b c) p (-2) (1) * (taps5 (A3 V0) c) 3
      + tap (img V0 b c) p (-2) (2) * (taps5 (A3 V0) c) 4
      + tap (img V0 b c) p (-1) (-2) * (taps5 (A3 V0) c) 5
      + tap (img V0 b c) p (-1) (-1) * (taps5 (A3 V0) c) 6
      + tap (img V0 b c) p (-1) (0) * (taps5 (A3 V0) c) 7
      + tap (img V0 b c) p (-1) (1) * (taps5 (A3 V0) c) 8
      + tap (img V0 b c) p (-1) (2) * (taps5 (A3 V0) c) 9
      + tap (img V0 b c) p (0) (-2) * (taps5 (A3 V0) c) 10
      + tap (img V0 b c) p (0) (-1) * (taps5 (A3 V0) c) 11
      + tap (img V0 b c) p (0) (0) * (taps5 (A3 V0) c) 12
      + tap (img V0 b c) p (0) (1) * (taps5 (A3 V0) c) 13
      + tap (img V0 b c) p (0) (2) * (taps5 (A3 V0) c) 14
      + tap (img V0 b c) p (1) (-2) * (taps5 (A3 V0) c) 15
      + tap (img V0 b c) p (1) (-1) * (taps5 (A3 V0) c) 16
      + tap (img V0 b c) p (1) (0) * (taps5 (A3 V0) c) 17
      + tap (img V0 b c) p (1) (1) * (taps5 (A3 V0) c) 18
      + tap (img V0 b c) p (1) (2) * (taps5 (A3 V0) c) 19 : EReal) := by
  unfold res_main_v205
  clean_types
  pointwise
  simp only [pad2_00, pad2_01, pad2_10, pad2_11, first_taps]
  rfl

/-- The concatenated features: the 5 × 5 filtered image and its bias come last. -/
theorem cat2 (b : Fin 32) (c : Fin 384) (p : Fin 1024) :
    res_main_v244 V0 (ix4 b (chan2 c) (rowOf p) (colOf p))
      = (five (img V0 b c) (taps5 (A3 V0) c) p + A4 V0 (ix1 c) : EReal) := by
  unfold res_main_v244
  clean_types
  pointwise
  have hc : (chan2 c).val = 768 + c.val := rfl
  have e : ∀ h, (⟨(chan2 c).val - 384 - 384, h⟩ : Fin 384) = c := fun h => Fin.ext (by dsimp only; omega)
  rw [dif_neg (by omega), dif_neg (by omega)]
  simp only [e, pad2_00, pad2_01, pad2_10, pad2_11, more_taps]
  exact congrArg (fun z : EReal => z + A4 V0 (ix1 c)) (five_rows (img V0 b c) (taps5 (A3 V0) c) p)

/-- A sum over the 1152 mixed channels is the sum over the image's, the 3 × 3 copy's and the 5 × 5 copy's. -/
theorem sum_chan (f : Fin 1152 → EReal) :
    ∑ k, f k = ∑ c, f (chan0 c) + ∑ c, f (chan1 c) + ∑ c, f (chan2 c) := by
  have h1 : ∑ k : Fin 1152, f k = ∑ c : Fin 768, f ⟨c.val, by omega⟩ + ∑ c : Fin 384, f (chan2 c) :=
    Fin.sum_univ_add (a := 768) (b := 384) f
  have h2 : ∑ c : Fin 768, f ⟨c.val, by omega⟩ = ∑ c : Fin 384, f (chan0 c) + ∑ c : Fin 384, f (chan1 c) :=
    Fin.sum_univ_add (a := 384) (b := 384) fun c : Fin 768 => f ⟨c.val, by omega⟩
  rw [h1, h2]

/-- The reference's features of a pixel, each filtered copy with its bias. -/
def refFeatures (b : Fin 32) (p : Fin 1024) (d : Fin 768) : EReal :=
  ∑ c : Fin 384, A5 V0 (ix2 d (chan0 c)) * tap (img V0 b c) p 0 0
    + ∑ c : Fin 384, A5 V0 (ix2 d (chan1 c)) * (three (img V0 b c) (taps3 (A1 V0) c) p + A2 V0 (ix1 c))
    + ∑ c : Fin 384, A5 V0 (ix2 d (chan2 c)) * (five (img V0 b c) (taps5 (A3 V0) c) p + A4 V0 (ix1 c))
    + A6 V0 (ix1 d)

/-- The reference's mixed features at an index. -/
theorem mixed_apply (b : Fin 32) (p : Fin 1024) (d : Fin 768) :
    res_main_v251 V0 (ix3 b p d) = refFeatures V0 b p d := by
  unfold res_main_v251
  clean_types
  pointwise
  refine congrArg (fun z : EReal => z + A6 V0 (ix1 d)) ?_
  refine (sum_chan fun k => A5 V0 (ix2 d k) * res_main_v244 V0 (ix4 b k (rowOf p) (colOf p))).trans ?_
  simp only [cat0, cat1, cat2]

/-- The reference's normalised features at an index. -/
theorem norm_apply (b : Fin 32) (p : Fin 1024) (d : Fin 768) :
    res_main_v275 V0 (ix3 b p d)
      = normed (refFeatures V0 b p) (fun d => A7 V0 (ix1 d)) (fun d => A8 V0 (ix1 d)) d := by
  unfold res_main_v275 res_main_v257 res_main_v255
  clean_types
  pointwise
  simp only [mixed_apply]
  rfl

end Cert.RefTaps
-- ==== Proof.Equation.lean ====
module

public import proofs.«01_k».proof.Defs
public import proofs.«01_k».proof.Proof.Ref
public import proofs.«01_k».proof.Proof.Gen.Pre_finite_mix
public import Idealize.ShloMosaic.Lib.ReduceAll

@[expose] public section

set_option maxRecDepth 16384

noncomputable section

namespace Cert.Equation

open Idealize.ShloMosaic Cert.Norm Cert.Taps Cert.RefTaps

/-- An extended real that is a real number. -/
def IsReal (x : EReal) : Prop := ∃ r : ℝ, x = r

/-! ## Finite weights distribute -/

/-- A product with a finite weight distributes over the sum of any value and a finite bias. -/
theorem distrib (f : EReal) (b w : ℝ) : (w : EReal) * (f + b) = f * w + w * b := by
  rw [mul_comm (w : EReal) (f + b), mul_comm (w : EReal) b]
  induction f with
  | coe f => norm_cast; ring
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, ← EReal.coe_mul, EReal.bot_add]

/-! ## Infinite values -/

/-- An infinity of either sign. -/
def IsInf (x : EReal) : Prop := x = ⊤ ∨ x = ⊥

/-- A sum with an infinite first part is infinite. -/
theorem inf_add (x y : EReal) (h : IsInf x) : IsInf (x + y) := by
  rcases h with rfl | rfl
  · induction y with
    | coe r => exact Or.inl (EReal.top_add_coe r)
    | top => exact Or.inl rfl
    | bot => exact Or.inr (EReal.add_bot _)
  · exact Or.inr (EReal.bot_add y)

/-- A sum with an infinite second part is infinite. -/
theorem add_inf (x y : EReal) (h : IsInf y) : IsInf (x + y) := add_comm y x ▸ inf_add y x h

/-- A sum with an infinite term is infinite. -/
theorem sum_inf {ι : Type} [Fintype ι] [DecidableEq ι] (f : ι → EReal) (c : ι) (h : IsInf (f c)) : IsInf (∑ c, f c) := by
  rw [Fintype.sum_eq_add_sum_compl c f]
  exact inf_add _ _ h

/-- An infinity less anything is infinite. -/
theorem inf_sub (x y : EReal) (h : IsInf x) : IsInf (x - y) := sub_eq_add_neg x y ▸ inf_add _ _ h

/-- Anything less an infinity is infinite. -/
theorem sub_inf (x y : EReal) (h : IsInf y) : IsInf (x - y) := by
  rw [sub_eq_add_neg]
  refine add_inf _ _ ?_
  rcases h with rfl | rfl
  · exact Or.inr EReal.neg_top
  · exact Or.inl EReal.neg_bot

/-- A nonzero real multiple of an infinity is infinite. -/
theorem coe_mul_inf (w : ℝ) (hw : w ≠ 0) (x : EReal) (h : IsInf x) : IsInf ((w : EReal) * x) := by
  rcases lt_or_gt_of_ne hw with hw | hw <;> rcases h with rfl | rfl
  · exact Or.inr (EReal.coe_mul_top_of_neg hw)
  · exact Or.inl (EReal.coe_mul_bot_of_neg hw)
  · exact Or.inl (EReal.coe_mul_top_of_pos hw)
  · exact Or.inr (EReal.coe_mul_bot_of_pos hw)

/-- The number of features, as a literal. -/
theorem count : Ideal.ofBits .f32 0x44400000#32 = ((768 : ℝ) : EReal) := by
  simp [Ideal.ofBits, Ideal.ieee, -EReal.coe_mul]
  norm_num

/-- The mean is the sum over 768. -/
theorem mean_eq (A : Fin 768 → EReal) : mean A = ((1 / 768 : ℝ) : EReal) * ∑ e, A e := by
  unfold mean
  rw [count, Ideal.div_coe (by norm_num), mul_comm]

/-- The square of an infinity is +∞. -/
theorem inf_sq (x : EReal) (h : IsInf x) : x * x = ⊤ := by
  rcases h with rfl | rfl
  · exact EReal.top_mul_top
  · exact EReal.bot_mul_bot

/-- A pixel with an infinite feature is normalised to the shift alone: its variance is +∞. -/
theorem normed_inf (A γ β : Fin 768 → EReal) (e : Fin 768) (h : IsInf (A e)) (d : Fin 768) : normed A γ β d = β d := by
  have hm : IsInf (mean A) := by
    rw [mean_eq]
    exact coe_mul_inf _ (by norm_num) _ (sum_inf A e h)
  have hs : ∀ e, (A e - mean A) * (A e - mean A) = ⊤ := fun e => inf_sq _ (sub_inf _ _ hm)
  have hv : mean (fun e => (A e - mean A) * (A e - mean A)) = ⊤ := by
    rw [mean_eq]
    simp only [hs]
    have : (∑ _e : Fin 768, (⊤ : EReal)) = ⊤ := by
      rw [Fintype.sum_eq_add_sum_compl (0 : Fin 768)]
      refine EReal.top_add_of_ne_bot (ne_of_gt (lt_of_lt_of_le (by exact EReal.bot_lt_zero) (Finset.sum_nonneg fun _ _ => le_top)))
    rw [this]
    exact EReal.coe_mul_top_of_pos (by norm_num)
  have he : (⊤ : EReal) + Ideal.ofBits .f32 0x3727C5AC#32 = ⊤ := by
    have : ∃ r : ℝ, Ideal.ofBits .f32 0x3727C5AC#32 = r := by
      simp only [Ideal.ofBits, Ideal.ieee]
      split_ifs <;> first | exact ⟨_, rfl⟩ | simp_all
    obtain ⟨r, hr⟩ := this
    rw [hr, EReal.top_add_coe]
  unfold normed
  rw [hv, he, Ideal.rsqrt_top, mul_zero, zero_mul, zero_add]

/-! ## The features -/

/-- A filtered pixel plus a bias, mixed with a finite weight: the two are mixed apart, or both the whole and the
    mixed bias are infinite. -/
theorem mix (f b w : EReal) (hw : IsReal w) : w * (f + b) = f * w + w * b ∨ (IsInf (w * (f + b)) ∧ IsInf (w * b)) := by
  obtain ⟨w, rfl⟩ := hw
  by_cases h : IsInf b
  · by_cases h0 : w = 0
    · subst h0; left; simp
    · exact Or.inr ⟨coe_mul_inf w h0 _ (add_inf _ _ h), coe_mul_inf w h0 _ h⟩
  · left
    induction b with
    | coe b => exact distrib f b w
    | top => exact absurd (Or.inl rfl) h
    | bot => exact absurd (Or.inr rfl) h

/-- The features with the biases added to the filtered copies, where the copies' mixing weights are finite: they are the
    features with the biases mixed beforehand, or both are infinite. -/
theorem features_eq (Y : Fin 384 → Fin 32 → Fin 32 → EReal) (w3 w5 : Fin 384 → ℕ → EReal) (b3 b5 : Fin 384 → EReal)
    (V : Fin 768 → Fin 1152 → EReal) (bp : Fin 768 → EReal) (p : Fin 1024) (d : Fin 768)
    (hV1 : ∀ c, IsReal (V d (chan1 c))) (hV2 : ∀ c, IsReal (V d (chan2 c))) (R : EReal)
    (hR : R = ∑ c : Fin 384, V d (chan0 c) * tap (Y c) p 0 0
        + ∑ c : Fin 384, V d (chan1 c) * (three (Y c) (w3 c) p + b3 c)
        + ∑ c : Fin 384, V d (chan2 c) * (five (Y c) (w5 c) p + b5 c)
        + bp d) :
    R = features Y w3 w5 V (bias b3 b5 V bp) p d ∨ (IsInf R ∧ IsInf (features Y w3 w5 V (bias b3 b5 V bp) p d)) := by
  subst hR
  by_cases h1 : ∀ c, V d (chan1 c) * (three (Y c) (w3 c) p + b3 c) = three (Y c) (w3 c) p * V d (chan1 c) + V d (chan1 c) * b3 c
  · by_cases h2 : ∀ c, V d (chan2 c) * (five (Y c) (w5 c) p + b5 c) = five (Y c) (w5 c) p * V d (chan2 c) + V d (chan2 c) * b5 c
    · left
      simp only [h1, h2, Finset.sum_add_distrib, mul_comm (V d (chan0 _)) (tap _ _ _ _)]
      unfold features bias
      abel
    · right
      obtain ⟨c, hc⟩ := not_forall.1 h2
      obtain ⟨ha, hb⟩ := (mix _ _ _ (hV2 c)).resolve_left hc
      exact ⟨inf_add _ _ (add_inf _ _ (sum_inf (fun c => V d (chan2 c) * (five (Y c) (w5 c) p + b5 c)) c ha)),
        add_inf _ _ (add_inf _ _ (sum_inf (fun c => V d (chan2 c) * b5 c) c hb))⟩
  · right
    obtain ⟨c, hc⟩ := not_forall.1 h1
    obtain ⟨ha, hb⟩ := (mix _ _ _ (hV1 c)).resolve_left hc
    exact ⟨inf_add _ _ (inf_add _ _ (add_inf _ _ (sum_inf (fun c => V d (chan1 c) * (three (Y c) (w3 c) p + b3 c)) c ha))),
      add_inf _ _ (inf_add _ _ (add_inf _ _ (sum_inf (fun c => V d (chan1 c) * b3 c) c hb)))⟩

/-- Two pixels whose features agree or are infinite together are normalised alike. -/
theorem normed_eq (A B γ β : Fin 768 → EReal) (h : ∀ d, A d = B d ∨ (IsInf (A d) ∧ IsInf (B d))) (d : Fin 768) :
    normed A γ β d = normed B γ β d := by
  by_cases he : ∀ d, A d = B d
  · rw [funext he]
  · obtain ⟨e, he⟩ := not_forall.1 he
    obtain ⟨ha, hb⟩ := (h e).resolve_left he
    rw [normed_inf A γ β e ha, normed_inf B γ β e hb]

/-! ## The precondition read back -/

/-- A value whose magnitude is below something is a real number. -/
theorem real_of_lt (x y : EReal) (h : Ideal.cmp .olt (max x (-x)) y = 1#1) : IsReal x := by
  have hlt : max x (-x) < y := by
    by_contra hn
    simp [Ideal.cmp, hn] at h
  induction x with
  | coe r => exact ⟨r, rfl⟩
  | top => simp at hlt
  | bot => simp at hlt

section Pre

variable (m : (ℓ : Loc Cert.KernelIdeal.nD Cert.KernelIdeal.τ Cert.KernelIdeal.sig) → Buf (Elt Ideal) ℓ)
  (h : Cert.Pre_KernelIdeal_finite_mix (hPre_finite_mix := Cert.Pre_finite_mix.Gen.facts) m) (c : Dev Cert.KernelIdeal.nD)

include h

/-- The precondition, element by element: the filtered copies' mixing weights are finite. -/
theorem finite (d : Fin 768) (k : Fin 1152) (hk : 384 ≤ k.val) :
    IsReal (m ((c.tc : Thread Cert.KernelIdeal.nD Cert.KernelIdeal.τ).loc Cert.KernelIdeal.main_arg5) (ix2 d k)) := by
  have h0 := congrFun (h c) (fun a : Fin 0 => a.elim0)
  unfold Cert.Pre_finite_mix.fn at h0
  haveI : Subsingleton Cert.Pre_finite_mix.S_.Idx := ⟨fun a b => funext fun i : Fin 0 => i.elim0⟩
  obtain ⟨r, hr⟩ := real_of_lt _ _ (Host.reduce_andi_all _ _ _ _ _ h0 (ix2 d ⟨k.val - 384, by omega⟩))
  refine ⟨r, Eq.trans (congrArg (m ((c.tc : Thread Cert.KernelIdeal.nD Cert.KernelIdeal.τ).loc Cert.KernelIdeal.main_arg5)) ?_) hr⟩
  funext a
  fin_cases a
  · exact Fin.ext (by show d.val = 0 + d.val; omega)
  · exact Fin.ext (by show k.val = 384 + (k.val - 384); omega)

end Pre

/-! ## The reference's result is the kernel's -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.ReferenceIdeal Cert.ReferenceIdeal.Gen Cert.ReferenceIdeal.Value in
/-- The reference's result array, from arguments that agree with the kernel's, is the kernel's result array. -/
theorem result_eq (h : Cert.Pre_KernelIdeal_finite_mix (hPre_finite_mix := Cert.Pre_finite_mix.Gen.facts) m) (c : Dev Cert.KernelIdeal.nD)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5))
    (h6 : m' ((c.tc : Thread nD τ).loc main_arg6) = m ((c.tc : Thread Cert.KernelIdeal.nD Cert.KernelIdeal.τ).loc Cert.KernelIdeal.main_arg6))
    (h7 : m' ((c.tc : Thread nD τ).loc main_arg7) = m ((c.tc : Thread Cert.KernelIdeal.nD Cert.KernelIdeal.τ).loc Cert.KernelIdeal.main_arg7))
    (h8 : m' ((c.tc : Thread nD τ).loc main_arg8) = m ((c.tc : Thread Cert.KernelIdeal.nD Cert.KernelIdeal.τ).loc Cert.KernelIdeal.main_arg8)) :
    mulf (mulf (broadcastInDim S32x1024x768 ![] bcast_S_S32x1024x768 (constant S_ .f32 0x3F000000#32)) (res_main_v275 (StableHlo.launchContents m' c)))
      (Host.erfc (Host.divf (Host.negf (res_main_v275 (StableHlo.launchContents m' c)))
        (broadcastInDim S32x1024x768 ![] bcast_S_S32x1024x768 (Host.sqrt (constant (F := Ideal) S_ .f32 0x40000000#32)))))
      = val m c := by
  funext i
  obtain ⟨b, p, d, rfl⟩ : ∃ (b : Fin 32) (p : Fin 1024) (d : Fin 768), i = (ix3 b p d : S32x1024x768.Idx) :=
    ⟨i 0, i 1, i 2, funext fun a => by fin_cases a <;> rfl⟩
  pointwise
  rw [norm_apply]
  refine (gelu_erfc _).trans ?_
  show _ = result m c p b d
  unfold result
  rw [← h7, ← h8]
  refine congrArg gelu (normed_eq _ _ _ _ (fun d => ?_) d)
  refine features_eq _ _ _ _ _ _ _ _ d (fun k => finite m h c d _ (Nat.le_add_right _ _))
    (fun k => finite m h c d _ (by show 384 ≤ 768 + k.val; omega)) _ ?_
  rw [← h0, ← h1, ← h2, ← h3, ← h4, ← h5, ← h6]
  rfl

end Cert.Equation
-- ==== Proof.lean ====
/- The certificate's claims, assembled from the modules beside this file: the kernel's result (Taps, Norm, Block, Host), the
   reference's (Ref), and their equality under the precondition (Equation). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_mix
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
        ∧ r.2.sem = fun _ => 0) :=
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- The two rewritten kinds of site: the images packed two rows to a word, and the constant 1/√2. -/
theorem preserves : Cert.preserves_Kernel_KernelIdeal :=
  ⟨IdealRules.bf16_pair.statement Cert.KernelIdeal.S384x1024 Cert.KernelIdeal.S192x1024,
    IdealRules.named_const.statement Cert.KernelIdeal.κ "inv_sqrt2" .f32 0x3F3504F3#32 (((Real.sqrt 2)⁻¹ : ℝ) : EReal) rfl⟩

/-- Kernel and reference, from agreeing arguments with finite mixing weights of the filtered copies, end with the same
    result array. -/
theorem algebraic : Cert.algebraic_KernelIdeal_ReferenceIdeal_pre_finite_mix (hKernelIdeal := Cert.KernelIdeal.Gen.facts)
    (hReferenceIdeal := Cert.ReferenceIdeal.Gen.facts) (hPre_finite_mix := Cert.Pre_finite_mix.Gen.facts) := by
  intro m ρ m' ρ' hpre hagree
  refine ⟨fun c => Cert.Taps.val m c, ?_, ?_⟩
  · exact (θ_run Cert.KernelIdeal.defs _ _).mono
      (fun _ h c => ⟨(h c).1.trans (Cert.Taps.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    exact Cert.Equation.result_eq m m' hpre c h0 h1 h2 h3 h4 h5 h6 h7 h8

/-- The five claims, and the two frames under the precondition. -/
theorem claim : Cert.Claim := ⟨Cert.Kernel.Gen.facts, Cert.KernelIdeal.Gen.facts, Cert.ReferenceIdeal.Gen.facts, Cert.Pre_finite_mix.Gen.facts,
  fun m ρ _ => Cert.Kernel.Gen.frame m ρ,
  fun m ρ _ => Cert.KernelIdeal.Gen.frame m ρ,
  fun m ρ _ => Cert.KernelIdeal.Gen.frame m ρ,
  fun m ρ _ => frame_ri m ρ,
  fun m ρ _ => frame_ri m ρ,
  preserves,
  algebraic⟩

end Cert.Proof

end
